-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Kernel_none (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)
  ∧ IdealRules.named_const.Statement Cert.KernelIdeal.κ "ln2" .f32 0x3F317218#32 ((Real.log 2 : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel) (hPre_finite := hPre_finite)
    ∧ quiescent_Kernel_pre_none (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x5760 : Shape := ⟨2, ![4096, 5760]⟩
abbrev S4096x8 : Shape := ⟨2, ![4096, 8]⟩
abbrev S4096x2048 : Shape := ⟨2, ![4096, 2048]⟩
abbrev S_ : Shape := ⟨0, ![]⟩

class Facts : Prop where
  bcast_S_S4096x5760 : S_.BroadcastsInDim S4096x5760 (![] : Fin 0 → Fin S4096x5760.rank)
  reducesTo_S4096x5760_S_d0_1 : S4096x5760.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x5760 .f32) (main_arg1 : FVec F S4096x8 .f32) (main_arg2 : FVec F S4096x2048 .bf16) : IVec S_ 1 :=
  let main_v0 : FVec F S4096x5760 .f32 := Host.absf main_arg0
  let main_cst : FVec F S_ .f32 := constant S_ .f32 0x7F800000#32
  let main_v1 : FVec F S4096x5760 .f32 := broadcastInDim S4096x5760 ![] bcast_S_S4096x5760 main_cst
  let main_v2 : IVec S4096x5760 1 := cmpf .olt main_v0 main_v1
  let main_c : IVec S_ 1 := constantI S_ 1 1#1
  let main_v3 : IVec S_ 1 := (fun x v => Host.reduce IntOp.andi x v reducesTo_S4096x5760_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x2048 .f32 := (extf .f32 · bitsLt_bf16_f32) main_arg2
  let main_v10 : FVec F S4096x2048 .f32 := Host.absf main_v9
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v8 main_v13
  main_v14
-- ==== Kernel.lean ====
abbrev S4096x5760 : Shape := ⟨2, ![4096, 5760]⟩
abbrev S4096x8 : Shape := ⟨2, ![4096, 8]⟩
abbrev S4096x2048 : Shape := ⟨2, ![4096, 2048]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S8x128x4096 : Shape := ⟨3, ![8, 128, 4096]⟩
abbrev S8x8x1x512 : Shape := ⟨4, ![8, 8, 1, 512]⟩
abbrev S512x128 : Shape := ⟨2, ![512, 128]⟩
abbrev S4096x128 : Shape := ⟨2, ![4096, 128]⟩
abbrev S1x8x1x512 : Shape := ⟨4, ![1, 8, 1, 512]⟩
abbrev S8x1x512 : Shape := ⟨3, ![8, 1, 512]⟩
abbrev S512 : Shape := ⟨1, ![512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 65
  | .vmem => 24
  | .smem => 0
  | _ => 0

abbrev bufTy : (tb : Table) → Fin (tcTables nBuf tb) → BufTy
  | .hbm, ⟨0, _⟩ => ⟨S4096x5760, .f32⟩
  | .hbm, ⟨1, _⟩ => ⟨S4096x8, .f32⟩
  | .hbm, ⟨2, _⟩ => ⟨S4096x2048, .bf16⟩
  | .hbm, ⟨3, _⟩ => ⟨S4096x1024, .f32⟩
  | .hbm, ⟨4, _⟩ => ⟨S4096x8x128, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x128x4096, .f32⟩
  | .hbm, ⟨41, _⟩ => ⟨S4096x8x128, .f32⟩
  | .hbm, ⟨42, _⟩ => ⟨S4096x1024, .f32⟩
  | .hbm, ⟨43, _⟩ => ⟨S4096x1024, .bf16⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096, .f32⟩
  | .hbm, ⟨51, _⟩ => ⟨S4096x8, .f32⟩
  | .hbm, ⟨52, _⟩ => ⟨S4096x8x128, .f32⟩
  | .hbm, ⟨53, _⟩ => ⟨S4096x1024, .f32⟩
  | .hbm, ⟨54, _⟩ => ⟨S8x4096, .f32⟩
  | .hbm, ⟨55, _⟩ => ⟨S8x8x1x512, .f32⟩
  | .hbm, ⟨56, _⟩ => ⟨S_, .f32⟩
  | .hbm, ⟨57, _⟩ => ⟨S_, .f32⟩
  | .hbm, ⟨58, _⟩ => ⟨S8x8x1x512, .f32⟩
  | .hbm, ⟨59, _⟩ => ⟨S8x8x1x512, .f32⟩
  | .hbm, ⟨60, _⟩ => ⟨S4096x1024, .bf16⟩
  | .hbm, ⟨61, _⟩ => ⟨S4096x1024, .f32⟩
  | .hbm, ⟨62, _⟩ => ⟨S4096x1024, .f32⟩
  | .hbm, ⟨63, _⟩ => ⟨S8x8x1x512, .f32⟩
  | .hbm, ⟨64, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S1x8x1x512, .f32⟩
  | .local _ .vmem, ⟨13, _⟩ => ⟨S1x8x1x512, .f32⟩
  | .local _ .vmem, ⟨14, _⟩ => ⟨S512x128, .bf16⟩
  | .local _ .vmem, ⟨15, _⟩ => ⟨S512x128, .bf16⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S1x8x1x512, .f32⟩
  | .local _ .vmem, ⟨21, _⟩ => ⟨S1x8x1x512, .f32⟩
  | .local _ .vmem, ⟨22, _⟩ => ⟨S512x128, .f32⟩
  | .local _ .vmem, ⟨23, _⟩ => ⟨S512x128, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48_0 : Ref sig .tc := ⟨.hbm, 60, rfl⟩
abbrev main_v48_1 : Ref sig .tc := ⟨.hbm, 61, rfl⟩
abbrev main_v48_2 : Ref sig .tc := ⟨.hbm, 62, rfl⟩
abbrev main_v48_3 : Ref sig .tc := ⟨.hbm, 63, rfl⟩
abbrev main_v48_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_11 : BitVec 32 := 0#32
  let arg1 : BitVec 32 := BitVec.ofNat 32 (i 1).val
  let v24 : BitVec 32 := Scalar.subi arg1 c0_i32_11
  let c1_i32 : BitVec 32 := 1#32
  let v26 : BitVec 32 := Scalar.divsi v24 c1_i32
  let v27 : BitVec 32 := Scalar.muli v26 c1_i32
  let v28 : BitVec 32 := Scalar.addi c0_i32_11 v27
  let c1_i32_12 : BitVec 32 := 1#32
  ⟨c0_i32_11, v28, c1_i32_12⟩
def k0_mult1 (i : grid0.Coords) (k0_t1 : Fin (k0_t1_loop i).trips) : BitVec 32 :=
  let c0_i32_11 : BitVec 32 := 0#32
  let c1_i32_12 : BitVec 32 := 1#32
  let arg14 : BitVec 32 := Scf.iv c0_i32_11 c1_i32_12 k0_t1
  let c512_i32_43 : BitVec 32 := 512#32
  let v93 : BitVec 32 := Scalar.muli arg14 c512_i32_43
  v93
def k0_off1 (i : grid0.Coords) (k0_t1 : Fin (k0_t1_loop i).trips) : Fin 2 → Nat :=
  let c0_i32_11 : BitVec 32 := 0#32
  let c1_i32_12 : BitVec 32 := 1#32
  let arg14 : BitVec 32 := Scf.iv c0_i32_11 c1_i32_12 k0_t1
  let c512_i32_43 : BitVec 32 := 512#32
  let v93 : BitVec 32 := Scalar.muli arg14 c512_i32_43
  let v94 : BitVec 32 := v93
  let v95 : Index := Scalar.indexCast v94
  let c0_44 : Index := 0#32
  ![v95.toNat, 0]
def k0_off2 (i : grid0.Coords) (k0_t1 : Fin (k0_t1_loop i).trips) : Fin 4 → Nat :=
  let c0_47 : Index := 0#32
  let c0_i32_11 : BitVec 32 := 0#32
  let c1_i32_12 : BitVec 32 := 1#32
  let arg14 : BitVec 32 := Scf.iv c0_i32_11 c1_i32_12 k0_t1
  let v103 : Index := Scalar.indexCast arg14
  let c0_48 : Index := 0#32
  let c0_49 : Index := 0#32
  ![0, v103.toNat, 0, 0]
@[reducible] def k0_t2_loop (i : grid0.Coords) : Scf.Loop 32 :=
  let c0_i32_11 : BitVec 32 := 0#32
  let arg1 : BitVec 32 := BitVec.ofNat 32 (i 1).val
  let v24 : BitVec 32 := Scalar.subi arg1 c0_i32_11
  let c1_i32 : BitVec 32 := 1#32
  let v26 : BitVec 32 := Scalar.divsi v24 c1_i32
  let v27 : BitVec 32 := Scalar.muli v26 c1_i32
  let v28 : BitVec 32 := Scalar.addi c0_i32_11 v27
  let v25 : BitVec 32 := Scalar.addi c0_i32_11 v24
  let c1_i32_13 : BitVec 32 := 1#32
  ⟨v28, v25, c1_i32_13⟩
def k0_mult2 (i : grid0.Coords) (k0_t2 : Fin (k0_t2_loop i).trips) : BitVec 32 :=
  let c0_i32_11 : BitVec 32 := 0#32
  let arg1 : BitVec 32 := BitVec.ofNat 32 (i 1).val
  let v24 : BitVec 32 := Scalar.subi arg1 c0_i32_11
  let c1_i32 : BitVec 32 := 1#32
  let v26 : BitVec 32 := Scalar.divsi v24 c1_i32
  let v27 : BitVec 32 := Scalar.muli v26 c1_i32
  let v28 : BitVec 32 := Scalar.addi c0_i32_11 v27
  let c1_i32_13 : BitVec 32 := 1#32
  let arg14 : BitVec 32 := Scf.iv v28 c1_i32_13 k0_t2
  let c512_i32_43 : BitVec 32 := 512#32
  let v93 : BitVec 32 := Scalar.muli arg14 c512_i32_43
  v93
def k0_off3 (i : grid0.Coords) (k0_t2 : Fin (k0_t2_loop i).trips) : Fin 2 → Nat :=
  let c0_i32_11 : BitVec 32 := 0#32
  let arg1 : BitVec 32 := BitVec.ofNat 32 (i 1).val
  let v24 : BitVec 32 := Scalar.subi arg1 c0_i32_11
  let c1_i32 : BitVec 32 := 1#32
  let v26 : BitVec 32 := Scalar.divsi v24 c1_i32
  let v27 : BitVec 32 := Scalar.muli v26 c1_i32
  let v28 : BitVec 32 := Scalar.addi c0_i32_11 v27
  let c1_i32_13 : BitVec 32 := 1#32
  let arg14 : BitVec 32 := Scf.iv v28 c1_i32_13 k0_t2
  let c512_i32_43 : BitVec 32 := 512#32
  let v93 : BitVec 32 := Scalar.muli arg14 c512_i32_43
  let v94 : BitVec 32 := v93
  let v95 : Index := Scalar.indexCast v94
  let c0_44 : Index := 0#32
  ![v95.toNat, 0]
def k0_off4 (i : grid0.Coords) (k0_t2 : Fin (k0_t2_loop i).trips) : Fin 4 → Nat :=
  let c0_47 : Index := 0#32
  let c0_i32_11 : BitVec 32 := 0#32
  let arg1 : BitVec 32 := BitVec.ofNat 32 (i 1).val
  let v24 : BitVec 32 := Scalar.subi arg1 c0_i32_11
  let c1_i32 : BitVec 32 := 1#32
  let v26 : BitVec 32 := Scalar.divsi v24 c1_i32
  let v27 : BitVec 32 := Scalar.muli v26 c1_i32
  let v28 : BitVec 32 := Scalar.addi c0_i32_11 v27
  let c1_i32_13 : BitVec 32 := 1#32
  let arg14 : BitVec 32 := Scf.iv v28 c1_i32_13 k0_t2
  let v103 : Index := Scalar.indexCast arg14
  let c0_48 : Index := 0#32
  let c0_49 : Index := 0#32
  ![0, v103.toNat, 0, 0]
def k0_mult3 (i : grid0.Coords) : BitVec 32 :=
  let arg1 : BitVec 32 := BitVec.ofNat 32 (i 1).val
  let c512_i32 : BitVec 32 := 512#32
  let v31 : BitVec 32 := Scalar.muli arg1 c512_i32
  v31
def k0_off5 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_14 : Index := 0#32
  ![v33.toNat, 0]
def k0_off6 (i : grid0.Coords) : Fin 4 → Nat :=
  let c0_17 : Index := 0#32
  let arg1 : BitVec 32 := BitVec.ofNat 32 (i 1).val
  let v41 : Index := Scalar.indexCast arg1
  let c0_18 : Index := 0#32
  let c0_19 : Index := 0#32
  ![0, v41.toNat, 0, 0]
def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S4096x5760 : Shape := ⟨2, ![4096, 5760]⟩
abbrev S4096x8 : Shape := ⟨2, ![4096, 8]⟩
abbrev S4096x2048 : Shape := ⟨2, ![4096, 2048]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩
abbrev S8x8x1x512 : Shape := ⟨4, ![8, 8, 1, 512]⟩

abbrev nBuf : Space → Nat
  | .hbm => 126
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S4096x8, .f32⟩
  | .hbm, ⟨2, _⟩ => ⟨S4096x2048, .bf16⟩
  | .hbm, ⟨3, _⟩ => ⟨S4096x1024, .f32⟩
  | .hbm, ⟨4, _⟩ => ⟨S4096x8x128, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S4096x1024, .bf16⟩
  | .hbm, ⟨10, _⟩ => ⟨S4096x1024, .f32⟩
  | .hbm, ⟨11, _⟩ => ⟨S4096x8x128, .f32⟩
  | .hbm, ⟨12, _⟩ => ⟨S8x4096x4096, .f32⟩
  | .hbm, ⟨13, _⟩ => ⟨S_, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096, .f32⟩
  | .hbm, ⟨22, _⟩ => ⟨S8x1x4096, .f32⟩
  | .hbm, ⟨23, _⟩ => ⟨S8x4096x4096, .f32⟩
  | .hbm, ⟨24, _⟩ => ⟨S8x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .i1⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S8x4096, .i1⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x128x4096, .f32⟩
  | .hbm, ⟨77, _⟩ => ⟨S4096x8x128, .f32⟩
  | .hbm, ⟨78, _⟩ => ⟨S8x128x4096, .f32⟩
  | .hbm, ⟨79, _⟩ => ⟨S8x4096x4096, .f32⟩
  | .hbm, ⟨80, _⟩ => ⟨S8x128x4096, .f32⟩
  | .hbm, ⟨81, _⟩ => ⟨S4096x8x128, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S8x4096x1, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S_, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096, .f32⟩
  | .hbm, ⟨102, _⟩ => ⟨S8x1x4096, .f32⟩
  | .hbm, ⟨103, _⟩ => ⟨S_, .f32⟩
  | .hbm, ⟨104, _⟩ => ⟨S8x4096, .f32⟩
  | .hbm, ⟨105, _⟩ => ⟨S4096x8, .f32⟩
  | .hbm, ⟨106, _⟩ => ⟨S_, .f32⟩
  | .hbm, ⟨107, _⟩ => ⟨S8x4096, .f32⟩
  | .hbm, ⟨108, _⟩ => ⟨S8x4096x1, .f32⟩
  | .hbm, ⟨109, _⟩ => ⟨S_, .f32⟩
  | .hbm, ⟨110, _⟩ => ⟨S8x4096, .f32⟩
  | .hbm, ⟨111, _⟩ => ⟨S4096x8, .f32⟩
  | .hbm, ⟨112, _⟩ => ⟨S8x4096x4096, .f32⟩
  | .hbm, ⟨113, _⟩ => ⟨S8x4096x4096, .f32⟩
  | .hbm, ⟨114, _⟩ => ⟨S8x4096x128, .f32⟩
  | .hbm, ⟨115, _⟩ => ⟨S4096x8x128, .f32⟩
  | .hbm, ⟨116, _⟩ => ⟨S8x4096x128, .f32⟩
  | .hbm, ⟨117, _⟩ => ⟨S4096x8x128, .f32⟩
  | .hbm, ⟨118, _⟩ => ⟨S4096x1024, .f32⟩
  | .hbm, ⟨119, _⟩ => ⟨S4096x1024, .bf16⟩
  | .hbm, ⟨120, _⟩ => ⟨S4096x1024, .f32⟩
  | .hbm, ⟨121, _⟩ => ⟨S4096x1024, .f32⟩
  | .hbm, ⟨122, _⟩ => ⟨S8x4096, .f32⟩
  | .hbm, ⟨123, _⟩ => ⟨S8x8x1x512, .f32⟩
  | .hbm, ⟨124, _⟩ => ⟨S4096x8x128, .f32⟩
  | .hbm, ⟨125, _⟩ => ⟨S4096x1024, .f32⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== Kernel2.lean ====
abbrev S4x2x2816x1024 : Shape := ⟨4, ![4, 2, 2816, 1024]⟩
abbrev S4096x1024 : Shape := ⟨2, ![4096, 1024]⟩
abbrev S8x4x704x1024 : Shape := ⟨4, ![8, 4, 704, 1024]⟩
abbrev S4x8x704x1024 : Shape := ⟨4, ![4, 8, 704, 1024]⟩
abbrev S4x5632x1024 : Shape := ⟨3, ![4, 5632, 1024]⟩
abbrev S4096x2816 : Shape := ⟨2, ![4096, 2816]⟩
abbrev S512x1024 : Shape := ⟨2, ![512, 1024]⟩
abbrev S1x704x1024 : Shape := ⟨3, ![1, 704, 1024]⟩
abbrev S512x1408 : Shape := ⟨2, ![512, 1408]⟩
abbrev S704x1024 : Shape := ⟨2, ![704, 1024]⟩
abbrev S1408x1024 : Shape := ⟨2, ![1408, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x2x2816x1024, .f32⟩
  | .hbm, ⟨1, _⟩ => ⟨S4096x1024, .bf16⟩
  | .hbm, ⟨2, _⟩ => ⟨S8x4x704x1024, .f32⟩
  | .hbm, ⟨3, _⟩ => ⟨S4x8x704x1024, .f32⟩
  | .hbm, ⟨4, _⟩ => ⟨S4x5632x1024, .f32⟩
  | .hbm, ⟨5, _⟩ => ⟨S4x5632x1024, .bf16⟩
  | .hbm, ⟨6, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S512x1408, .bf16⟩
  | .local _ .vmem, ⟨7, _⟩ => ⟨S512x1408, .bf16⟩
  | _, _ => ⟨S4x2x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2x2816x1024 : Shape := ⟨4, ![4, 2, 2816, 1024]⟩
abbrev S4096x1024 : Shape := ⟨2, ![4096, 1024]⟩
abbrev S_ : Shape := ⟨0, ![]⟩
abbrev S4096x2816 : Shape := ⟨2, ![4096, 2816]⟩
abbrev S1x1x2816x1024 : Shape := ⟨4, ![1, 1, 2816, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2x2816x1024, .f32⟩
  | .hbm, ⟨1, _⟩ => ⟨S4096x1024, .bf16⟩
  | .hbm, ⟨2, _⟩ => ⟨S_, .f32⟩
  | .hbm, ⟨3, _⟩ => ⟨S4096x2816, .f32⟩
  | .hbm, ⟨4, _⟩ => ⟨S1x1x2816x1024, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .bf16⟩
  | _, _ => ⟨S4x2x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S4x704x1024 : Shape := ⟨3, ![4, 704, 1024]⟩
abbrev S1024x1408 : Shape := ⟨2, ![1024, 1408]⟩
abbrev S1024x1024 : Shape := ⟨2, ![1024, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x704x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4x2x1024x5632 : Shape := ⟨4, ![4, 2, 1024, 5632]⟩
abbrev S4096x5632 : Shape := ⟨2, ![4096, 5632]⟩
abbrev S8192x4x1408 : Shape := ⟨3, ![8192, 4, 1408]⟩
abbrev S4x8192x1408 : Shape := ⟨3, ![4, 8192, 1408]⟩
abbrev S4096x1024 : Shape := ⟨2, ![4096, 1024]⟩
abbrev S512x2816 : Shape := ⟨2, ![512, 2816]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 6
  | .vmem => 9
  | .smem => 0
  | _ => 0

abbrev bufTy : (tb : Table) → Fin (tcTables nBuf tb) → BufTy
  | .hbm, ⟨0, _⟩ => ⟨S4x2x1024x5632, .f32⟩
  | .hbm, ⟨1, _⟩ => ⟨S4096x5632, .bf16⟩
  | .hbm, ⟨2, _⟩ => ⟨S8192x4x1408, .f32⟩
  | .hbm, ⟨3, _⟩ => ⟨S4x8192x1408, .f32⟩
  | .hbm, ⟨4, _⟩ => ⟨S4x8192x1408, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x2x1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S4x2x1024x5632 : Shape := ⟨4, ![4, 2, 1024, 5632]⟩
abbrev S4096x5632 : Shape := ⟨2, ![4096, 5632]⟩
abbrev S_ : Shape := ⟨0, ![]⟩
abbrev S4096x1024 : Shape := ⟨2, ![4096, 1024]⟩
abbrev S1x1x1024x5632 : Shape := ⟨4, ![1, 1, 1024, 5632]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4x2x1024x5632, .f32⟩
  | .hbm, ⟨1, _⟩ => ⟨S4096x5632, .bf16⟩
  | .hbm, ⟨2, _⟩ => ⟨S_, .f32⟩
  | .hbm, ⟨3, _⟩ => ⟨S4096x1024, .f32⟩
  | .hbm, ⟨4, _⟩ => ⟨S1x1x1024x5632, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S4096x1024, .f32⟩
  | _, _ => ⟨S4x2x1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S4x2x1024x5632 : Shape := ⟨4, ![4, 2, 1024, 5632]⟩
abbrev S8192x4x1408 : Shape := ⟨3, ![8192, 4, 1408]⟩
abbrev S4x8192x1408 : Shape := ⟨3, ![4, 8192, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x2x1024x5632, .f32⟩
  | .hbm, ⟨2, _⟩ => ⟨S8192x4x1408, .f32⟩
  | .hbm, ⟨3, _⟩ => ⟨S4x8192x1408, .f32⟩
  | .hbm, ⟨4, _⟩ => ⟨S4x8192x1408, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S4x2x1024x5632 : Shape := ⟨4, ![4, 2, 1024, 5632]⟩
abbrev S1x1x1024x5632 : Shape := ⟨4, ![1, 1, 1024, 5632]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x1024x5632, .f32⟩
  | .hbm, ⟨2, _⟩ => ⟨S4096x1024, .f32⟩
  | .hbm, ⟨3, _⟩ => ⟨S1x1x1024x5632, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel8.lean ====
abbrev S4096x2816 : Shape := ⟨2, ![4096, 2816]⟩
abbrev S4x2x2816x1024 : Shape := ⟨4, ![4, 2, 2816, 1024]⟩
abbrev S4096x1024 : Shape := ⟨2, ![4096, 1024]⟩
abbrev S1024 : Shape := ⟨1, ![1024]⟩
abbrev S8x4x704x1024 : Shape := ⟨4, ![8, 4, 704, 1024]⟩
abbrev S4x8x704x1024 : Shape := ⟨4, ![4, 8, 704, 1024]⟩
abbrev S4x5632x1024 : Shape := ⟨3, ![4, 5632, 1024]⟩
abbrev S1x1024 : Shape := ⟨2, ![1, 1024]⟩
abbrev S512x1408 : Shape := ⟨2, ![512, 1408]⟩
abbrev S1x704x1024 : Shape := ⟨3, ![1, 704, 1024]⟩
abbrev S512x1024 : Shape := ⟨2, ![512, 1024]⟩
abbrev S704x1024 : Shape := ⟨2, ![704, 1024]⟩
abbrev S1408x1024 : Shape := ⟨2, ![1408, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4x2x2816x1024, .f32⟩
  | .hbm, ⟨2, _⟩ => ⟨S4096x1024, .f32⟩
  | .hbm, ⟨3, _⟩ => ⟨S1024, .f32⟩
  | .hbm, ⟨4, _⟩ => ⟨S8x4x704x1024, .f32⟩
  | .hbm, ⟨5, _⟩ => ⟨S4x8x704x1024, .f32⟩
  | .hbm, ⟨6, _⟩ => ⟨S4x5632x1024, .f32⟩
  | .hbm, ⟨7, _⟩ => ⟨S4x5632x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S4096x2816 : Shape := ⟨2, ![4096, 2816]⟩
abbrev S4x2x2816x1024 : Shape := ⟨4, ![4, 2, 2816, 1024]⟩
abbrev S4096x1024 : Shape := ⟨2, ![4096, 1024]⟩
abbrev S1024 : Shape := ⟨1, ![1024]⟩
abbrev S1x1x2816x1024 : Shape := ⟨4, ![1, 1, 2816, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x2x2816x1024, .f32⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S1x1x2816x1024, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S2x1024x5656 : Shape := ⟨3, ![2, 1024, 5656]⟩
abbrev S1x1024x5656 : Shape := ⟨3, ![1, 1024, 5656]⟩
abbrev S1024x5656 : Shape := ⟨2, ![1024, 5656]⟩
abbrev S_ : Shape := ⟨0, ![]⟩
abbrev S1024x104 : Shape := ⟨2, ![1024, 104]⟩
abbrev S1024x2560 : Shape := ⟨2, ![1024, 2560]⟩
abbrev S1024x3072 : Shape := ⟨2, ![1024, 3072]⟩
abbrev S1024x16 : Shape := ⟨2, ![1024, 16]⟩
abbrev S1024x8 : Shape := ⟨2, ![1024, 8]⟩
abbrev S1024x5760 : Shape := ⟨2, ![1024, 5760]⟩
abbrev S4096x5760 : Shape := ⟨2, ![4096, 5760]⟩
abbrev S512x1024 : Shape := ⟨2, ![512, 1024]⟩
abbrev S1024x1152 : Shape := ⟨2, ![1024, 1152]⟩
abbrev S512x1152 : Shape := ⟨2, ![512, 1152]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x5656, .f32⟩
  | .hbm, ⟨2, _⟩ => ⟨S1x1024x5656, .f32⟩
  | .hbm, ⟨3, _⟩ => ⟨S1024x5656, .f32⟩
  | .hbm, ⟨4, _⟩ => ⟨S1024x5656, .bf16⟩
  | .hbm, ⟨5, _⟩ => ⟨S_, .bf16⟩
  | .hbm, ⟨6, _⟩ => ⟨S1024x104, .bf16⟩
  | .hbm, ⟨7, _⟩ => ⟨S1024x2560, .bf16⟩
  | .hbm, ⟨8, _⟩ => ⟨S1024x3072, .bf16⟩
  | .hbm, ⟨9, _⟩ => ⟨S1024x16, .bf16⟩
  | .hbm, ⟨10, _⟩ => ⟨S1024x8, .bf16⟩
  | .hbm, ⟨11, _⟩ => ⟨S1024x5760, .bf16⟩
  | .hbm, ⟨12, _⟩ => ⟨S4096x5760, .f32⟩
  | .local _ .vmem, ⟨0, _⟩ => ⟨S512x1024, .bf16⟩
  | .local _ .vmem, ⟨1, _⟩ => ⟨S512x1024, .bf16⟩
  | .local _ .vmem, ⟨2, _⟩ => ⟨S1024x1152, .bf16⟩
  | .local _ .vmem, ⟨3, _⟩ => ⟨S1024x1152, .bf16⟩
  | .local _ .vmem, ⟨4, _⟩ => ⟨S512x1152, .f32⟩
  | .local _ .vmem, ⟨5, _⟩ => ⟨S512x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S2x1024x5656 : Shape := ⟨3, ![2, 1024, 5656]⟩
abbrev S1x1024x5656 : Shape := ⟨3, ![1, 1024, 5656]⟩
abbrev S1024x5656 : Shape := ⟨2, ![1024, 5656]⟩
abbrev S4096x5656 : Shape := ⟨2, ![4096, 5656]⟩
abbrev S4096x1536 : Shape := ⟨2, ![4096, 1536]⟩
abbrev S4096x16 : Shape := ⟨2, ![4096, 16]⟩
abbrev S4096x8 : Shape := ⟨2, ![4096, 8]⟩
abbrev S_ : Shape := ⟨0, ![]⟩
abbrev S4096x104 : Shape := ⟨2, ![4096, 104]⟩
abbrev S4096x5760 : Shape := ⟨2, ![4096, 5760]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x5656, .f32⟩
  | .hbm, ⟨2, _⟩ => ⟨S4096x1024, .f32⟩
  | .hbm, ⟨3, _⟩ => ⟨S1x1024x5656, .f32⟩
  | .hbm, ⟨4, _⟩ => ⟨S1024x5656, .f32⟩
  | .hbm, ⟨5, _⟩ => ⟨S4096x5656, .f32⟩
  | .hbm, ⟨6, _⟩ => ⟨S4096x1024, .f32⟩
  | .hbm, ⟨7, _⟩ => ⟨S4096x1536, .f32⟩
  | .hbm, ⟨8, _⟩ => ⟨S4096x16, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x8, .f32⟩
  | .hbm, ⟨13, _⟩ => ⟨S_, .f32⟩
  | .hbm, ⟨14, _⟩ => ⟨S4096x104, .f32⟩
  | .hbm, ⟨15, _⟩ => ⟨S4096x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel11.lean ====
abbrev S4096x1024 : Shape := ⟨2, ![4096, 1024]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x2048x1024, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S2x2048x1024 : Shape := ⟨3, ![2, 2048, 1024]⟩
abbrev S_ : Shape := ⟨0, ![]⟩
abbrev S4096x2048 : Shape := ⟨2, ![4096, 2048]⟩
abbrev S1x2048x1024 : Shape := ⟨3, ![1, 2048, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2048x1024, .f32⟩
  | .hbm, ⟨2, _⟩ => ⟨S_, .f32⟩
  | .hbm, ⟨3, _⟩ => ⟨S4096x2048, .f32⟩
  | .hbm, ⟨4, _⟩ => ⟨S1x2048x1024, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x2048, .f32⟩
  | .hbm, ⟨2, _⟩ => ⟨S4096x1024, .f32⟩
  | .hbm, ⟨3, _⟩ => ⟨S1x1024x2048, .f32⟩
  | .hbm, ⟨4, _⟩ => ⟨S1024x2048, .f32⟩
  | .hbm, ⟨5, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x2048x1024, .f32⟩
  | .hbm, ⟨3, _⟩ => ⟨S1x2048x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x1024 : Shape := ⟨2, ![4096, 1024]⟩
abbrev S2x2048x1024 : Shape := ⟨3, ![2, 2048, 1024]⟩
abbrev S4096x2048 : Shape := ⟨2, ![4096, 2048]⟩
abbrev S1x2048x1024 : Shape := ⟨3, ![1, 2048, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x2048x1024, .f32⟩
  | .hbm, ⟨3, _⟩ => ⟨S4096x1024, .f32⟩
  | .hbm, ⟨4, _⟩ => ⟨S4096x1024, .f32⟩
  | .hbm, ⟨5, _⟩ => ⟨S4096x2048, .f32⟩
  | .hbm, ⟨6, _⟩ => ⟨S1x2048x1024, .f32⟩
  | .hbm, ⟨7, _⟩ => ⟨S2048x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S1024x1024 : Shape := ⟨2, ![1024, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x2048, .f32⟩
  | .hbm, ⟨3, _⟩ => ⟨S1x1024x2048, .f32⟩
  | .hbm, ⟨4, _⟩ => ⟨S1024x2048, .f32⟩
  | .hbm, ⟨5, _⟩ => ⟨S1024x2048, .bf16⟩
  | .hbm, ⟨6, _⟩ => ⟨S1024x1024, .bf16⟩
  | .hbm, ⟨7, _⟩ => ⟨S1024x1024, .bf16⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x1024 : Shape := ⟨2, ![4096, 1024]⟩
abbrev S2x1024x2048 : Shape := ⟨3, ![2, 1024, 2048]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x2048, .f32⟩
  | .hbm, ⟨3, _⟩ => ⟨S_, .f32⟩
  | .hbm, ⟨4, _⟩ => ⟨S4096x1024, .f32⟩
  | .hbm, ⟨5, _⟩ => ⟨S1x1024x2048, .f32⟩
  | .hbm, ⟨6, _⟩ => ⟨S1024x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Tile.lean ====
/- The kernel's tile arithmetic on real tiles: what each payload of the backward body computes when its operands are
   tiles of real numbers. -/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Fox

open Cert.KernelIdeal Cert.KernelIdeal.Gen Idealize.ShloMosaic Idealize.ShloMosaic.TcCoe
open scoped BigOperators

/-- A matrix of extended reals with the real entries `f row column`. -/
def up2 (m n : ℕ) (f : ℕ → ℕ → ℝ) : (⟨2, ![m, n]⟩ : Shape).Idx → EReal := fun j => ((f (j 0).val (j 1).val : ℝ) : EReal)

/-- A row of the log forget gate's layout: 1 × 1 × 1 × 512 with the real entries `f column`. -/
def up4 (f : ℕ → ℝ) : (⟨4, ![1, 1, 1, 512]⟩ : Shape).Idx → EReal := fun j => ((f (j 3).val : ℝ) : EReal)

/-- A sum of real coercions is the coercion of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem coe_zero_add (x : ℝ) : (0 : EReal) + (x : EReal) = (x : EReal) := zero_add _

/-- The exponent of a tile's entry: the scaled score less the row's log-sum-exp less the column's gate. -/
def ex (q k : ℕ → ℕ → ℝ) (l c : ℕ → ℝ) (r s : ℕ) : ℝ := (∑ d : Fin 128, q r d * k s d) - l r - c s

/-- The gradient of the scores: the probability times the cotangent's product less its row mean. -/
def dsOf (p : ℕ → ℕ → ℝ) (g v : ℕ → ℕ → ℝ) (δ : ℕ → ℝ) (r s : ℕ) : ℝ := p r s * ((∑ d : Fin 128, g r d * v s d) - δ r)

theorem up2_ix (m n : ℕ) (f : ℕ → ℕ → ℝ) (a : Fin m) (b : Fin n) : up2 m n f (ix2 a b) = ((f a.val b.val : ℝ) : EReal) := rfl

theorem up2_at (m n : ℕ) (f : ℕ → ℕ → ℝ) (j : (⟨2, ![m, n]⟩ : Shape).Idx) : up2 m n f j = ((f (j 0).val (j 1).val : ℝ) : EReal) := rfl

theorem up4_ix (f : ℕ → ℝ) (a b c : Fin 1) (d : Fin 512) : up4 f (ix4 a b c d) = ((f d.val : ℝ) : EReal) := rfl

theorem up4_at (f : ℕ → ℝ) (j : (⟨4, ![1, 1, 1, 512]⟩ : Shape).Idx) : up4 f j = ((f (j 3).val : ℝ) : EReal) := rfl

theorem exp2_real (x : ℝ) : FloatOps.exp2 (F := Ideal) (φ := .f32) ((x : ℝ) : EReal) = (((2 : ℝ) ^ x : ℝ) : EReal) := rfl

theorem exp2_mask : FloatOps.exp2 (F := Ideal) (φ := .f32) (⊥ : EReal) = ((0 : ℝ) : EReal) := rfl

theorem named_mask : Named.named (F := Ideal) κ "mask" (φ := .f32) 0xF149F2CA#32 = (⊥ : EReal) := rfl

theorem named_ln2 : Named.named (F := Ideal) κ "ln2" (φ := .f32) 0x3F317218#32 = ((Real.log 2 : ℝ) : EReal) := rfl

theorem named_scale : Named.named (F := Ideal) κ "scale" (φ := .f32) 0x3DB504F3#32 = (((Real.sqrt 128)⁻¹ : ℝ) : EReal) := rfl

theorem named_scale_log2e : Named.named (F := Ideal) κ "scale_log2e" (φ := .f32) 0x3E0293EE#32
    = (((Real.sqrt 128)⁻¹ * (Real.log 2)⁻¹ : ℝ) : EReal) := rfl

/-- The causal mask of the diagonal tile: a row sees the columns up to its own. -/
theorem mask_at (a b : Fin 512) : k0_pay26 (ix2 a b) = BitVec.ofBool (decide (b.val ≤ a.val)) := by
  pointwise [k0_pay26]
  have ha := a.isLt
  have hb := b.isLt
  have e : ∀ x : ℕ, x < 512 → (BitVec.ofNat 32 x).toInt = x := fun x hx => by
    rw [BitVec.toInt_eq_toNat_of_lt] <;> rw [BitVec.toNat_ofNat] <;> omega
  simp only [IntOp.cmpi, BitVec.sle, e _ ha, e _ hb]
  norm_cast

/-- The masked probability: zero past the diagonal. -/
def pm (q k : ℕ → ℕ → ℝ) (l c : ℕ → ℝ) (r s : ℕ) : ℝ := if s ≤ r then (2 : ℝ) ^ ex q k l c r s else 0

/-- The unmasked probability. -/
def pf (q k : ℕ → ℕ → ℝ) (l c : ℕ → ℝ) (r s : ℕ) : ℝ := (2 : ℝ) ^ ex q k l c r s

section Tiles

variable (q k g v o a : ℕ → ℕ → ℝ) (l c δ : ℕ → ℝ)

theorem tile_p :
    k0_pay12 (F := Ideal) (up2 512 128 q) (up2 512 512 fun r _ => l r) (up2 512 128 k) (up4 c) = up2 512 512 (pf q k l c) := by
  funext j
  pointwise [k0_pay12, k0_pay11]
  simp only [up2_at, up4_at, ← EReal.coe_mul, coe_sum, ← EReal.coe_sub, exp2_real]
  rfl

theorem tile_pm :
    k0_pay34 (F := Ideal) (up2 512 128 q) (up2 512 512 fun r _ => l r) k0_pay26 (up2 512 128 k) (up4 c) = up2 512 512 (pm q k l c) := by
  funext j
  idx_vars j
  pointwise [k0_pay34]
  simp only [up2_at, up4_at, ← EReal.coe_mul, coe_sum, ← EReal.coe_sub, named_mask, mask_at]
  by_cases h : j1.val ≤ j0.val
  · rw [decide_eq_true h]
    refine Eq.trans ?_ (congrArg (fun x : ℝ => (x : EReal)) (if_pos h).symm)
    exact exp2_real _
  · rw [decide_eq_false h]
    refine Eq.trans ?_ (congrArg (fun x : ℝ => (x : EReal)) (if_neg h).symm)
    exact exp2_mask

theorem tile_cast : k0_pay33 (F := Ideal) (up2 512 128 k) = up2 512 128 k := rfl

theorem tile_ds : k0_pay13 (F := Ideal) (up2 512 128 q) (up2 512 128 g) (up2 512 1 fun r _ => δ r) (up2 512 512 fun r _ => l r)
    (up2 512 128 k) (up2 512 128 v) (up4 c) = up2 512 512 (dsOf (pf q k l c) g v δ) := by
  funext j
  pointwise [k0_pay13, tile_p]
  simp only [up2_at, ← EReal.coe_mul, coe_sum, ← EReal.coe_sub]
  rfl

theorem tile_dq : k0_pay15 (F := Ideal) (up2 512 128 q) (up2 512 128 g) (up2 512 1 fun r _ => δ r) (up2 512 512 fun r _ => l r)
    (up2 512 128 a) (up2 512 128 k) (up2 512 128 v) (up4 c)
    = up2 512 128 fun r d => a r d + (∑ s : Fin 512, dsOf (pf q k l c) g v δ r s * k s d) * (Real.sqrt 128)⁻¹ := by
  funext j
  pointwise [k0_pay15, k0_pay14, tile_ds, k0_pay11]
  simp only [up2_at, ← EReal.coe_mul, coe_sum, ← EReal.coe_add, named_scale]
  rfl

theorem tile_dk : k0_pay16 (F := Ideal) (up2 512 128 q) (up2 512 128 g) (up2 512 1 fun r _ => δ r) (up2 512 512 fun r _ => l r)
    (up2 512 128 k) (up2 512 128 v) (up4 c) (up2 512 128 o)
    = up2 512 128 fun s d => o s d + (∑ r : Fin 512, dsOf (pf q k l c) g v δ r s * q r d) * Real.log 2 := by
  funext j
  pointwise [k0_pay16, k0_pay14, tile_ds]
  simp only [up2_at, ← EReal.coe_mul, coe_sum, ← EReal.coe_add, named_ln2]
  rfl

theorem tile_dv : k0_pay17 (F := Ideal) (up2 512 128 q) (up2 512 128 g) (up2 512 512 fun r _ => l r)
    (up2 512 128 k) (up4 c) (up2 512 128 o)
    = up2 512 128 fun s d => o s d + ∑ r : Fin 512, pf q k l c r s * g r d := by
  funext j
  pointwise [k0_pay17, tile_p]
  simp only [up2_at, ← EReal.coe_mul, coe_sum, ← EReal.coe_add]
  rfl

theorem tile_dsm : k0_pay35 (F := Ideal) (up2 512 128 q) (up2 512 128 g) (up2 512 1 fun r _ => δ r) (up2 512 512 fun r _ => l r) k0_pay26
    (up2 512 128 k) (up2 512 128 v) (up4 c) = up2 512 512 (dsOf (pm q k l c) g v δ) := by
  funext j
  pointwise [k0_pay35, tile_pm]
  simp only [up2_at, ← EReal.coe_mul, coe_sum, ← EReal.coe_sub]
  rfl

theorem tile_dqm : k0_pay37 (F := Ideal) (up2 512 128 q) (up2 512 128 g) (up2 512 1 fun r _ => δ r) (up2 512 512 fun r _ => l r) k0_pay26
    (up2 512 128 a) (up2 512 128 k) (up2 512 128 v) (up4 c)
    = up2 512 128 fun r d => a r d + (∑ s : Fin 512, dsOf (pm q k l c) g v δ r s * k s d) * (Real.sqrt 128)⁻¹ := by
  funext j
  pointwise [k0_pay37, k0_pay36, tile_dsm]
  simp only [up2_at, ← EReal.coe_mul, coe_sum, ← EReal.coe_add, named_scale]
  rfl

theorem tile_dkm : k0_pay38 (F := Ideal) (up2 512 128 q) (up2 512 128 g) (up2 512 1 fun r _ => δ r) (up2 512 512 fun r _ => l r) k0_pay26
    (up2 512 128 k) (up2 512 128 v) (up4 c) (up2 512 128 o)
    = up2 512 128 fun s d => o s d + (∑ r : Fin 512, dsOf (pm q k l c) g v δ r s * q r d) * Real.log 2 := by
  funext j
  pointwise [k0_pay38, k0_pay36, tile_dsm]
  simp only [up2_at, ← EReal.coe_mul, coe_sum, ← EReal.coe_add, named_ln2]
  rfl

theorem tile_dvm : k0_pay39 (F := Ideal) (up2 512 128 q) (up2 512 128 g) (up2 512 512 fun r _ => l r) k0_pay26
    (up2 512 128 k) (up4 c) (up2 512 128 o)
    = up2 512 128 fun s d => o s d + ∑ r : Fin 512, pm q k l c r s * g r d := by
  funext j
  pointwise [k0_pay39, tile_pm]
  simp only [up2_at, ← EReal.coe_mul, coe_sum, ← EReal.coe_add]
  rfl

theorem tile_dck (x : ℕ → ℕ → ℝ) (y : ℕ → ℝ) : k0_pay31 (F := Ideal) (up2 512 512 x) (up4 y) = up4 fun s => y s - ∑ r : Fin 512, x r s := by
  funext j
  pointwise [k0_pay31]
  simp only [up2_at, up4_at, coe_sum, ← EReal.coe_sub]
  rfl

theorem tile_rows (x : ℕ → ℕ → ℝ) (y : ℕ → ℝ) : k0_pay32 (F := Ideal) (up2 512 1 fun r _ => y r) (up2 512 512 x)
    = up2 512 1 fun r _ => y r + ∑ s : Fin 512, x r s := by
  funext j
  pointwise [k0_pay32]
  simp only [up2_at, coe_sum, ← EReal.coe_add]
  rfl

theorem tile_dckm (x : ℕ → ℕ → ℝ) (y : ℕ → ℝ) : k0_pay1 (F := Ideal) (up2 512 512 x) (up4 y) = up4 fun s => y s - ∑ r : Fin 512, x r s := by
  funext j
  pointwise [k0_pay1]
  simp only [up2_at, up4_at, coe_sum, ← EReal.coe_sub]
  rfl

theorem tile_rowsm (x : ℕ → ℕ → ℝ) (y : ℕ → ℝ) : k0_pay3 (F := Ideal) (up2 512 1 fun r _ => y r) (up2 512 512 x)
    = up2 512 128 fun r _ => y r + ∑ s : Fin 512, x r s := by
  funext j
  pointwise [k0_pay3]
  simp only [up2_at, coe_sum, ← EReal.coe_add]
  rfl

theorem tile_q : k0_pay21 (F := Ideal) (up2 512 128 q) = up2 512 128 fun r d => q r d * ((Real.sqrt 128)⁻¹ * (Real.log 2)⁻¹) := by
  funext j
  pointwise [k0_pay21]
  simp only [up2_at, ← EReal.coe_mul, named_scale_log2e]

theorem tile_do : k0_pay23 (F := Ideal) (up2 512 128 g) = up2 512 128 g := rfl

theorem tile_delta : k0_pay24 (F := Ideal) (up2 512 128 g) (up2 512 128 o) = up2 512 1 fun r _ => ∑ d : Fin 128, g r d * o r d := by
  funext j
  pointwise [k0_pay24, k0_pay22]
  simp only [up2_at, ← EReal.coe_mul, coe_sum]
  rfl

theorem tile_lse : k0_pay25 (F := Ideal) (up2 512 128 fun r _ => l r) = up2 512 512 fun r _ => l r := by
  funext j
  pointwise [k0_pay25]
  simp only [up2_at]
  split_ifs <;> rfl

theorem tile_zero : k0_pay27 (F := Ideal) = up2 512 128 fun _ _ => 0 := by
  funext j
  pointwise [k0_pay27]
  rfl

theorem tile_zero_rows : k0_pay28 (F := Ideal) = up2 512 1 fun _ _ => 0 := by
  funext j
  pointwise [k0_pay28]
  rfl

end Tiles

end Cert.Fox
-- ==== Proof.Rows.lean ====
/- Rows of a staged block: what a load of 512 rows reads and what a store of 512 rows leaves, when the block holds real
   numbers. -/
module

public import proofs.«01_k».proof.Proof.Tile
public import proofs.«01_k».proof.Proof.Gen.KernelIdeal.Loops
public import Idealize.ShloMosaic.Lib.WritesUnit
public import Idealize.ShloMosaic.Lib.VecWindow

@[expose] public section

set_option maxRecDepth 16384

noncomputable section

namespace Cert.Fox

open Cert.KernelIdeal Cert.KernelIdeal.Gen Idealize.ShloMosaic Idealize.ShloMosaic.TcCoe
open scoped BigOperators

/-- The gate's row of one head in its staged layout: 1 × 8 × 1 × 512 with the real entries `f position`. -/
def upc (f : ℕ → ℝ) : (⟨4, ![1, 8, 1, 512]⟩ : Shape).Idx → EReal := fun j => ((f (512 * (j 1).val + (j 3).val) : ℝ) : EReal)

theorem upc_at (f : ℕ → ℝ) (j : (⟨4, ![1, 8, 1, 512]⟩ : Shape).Idx) :
    upc f j = ((f (512 * (j 1).val + (j 3).val) : ℝ) : EReal) := rfl

section Rows

variable {b : Memref sig .tc .vmem S4096x128 .f32}

/-- A load of the 512 rows from `512 n` on. -/
theorem load_rows (X : b.view.ty.Contents (Elt Ideal)) (o : ℕ → ℕ → ℝ) (h : b.view.read (Elt Ideal) X = up2 4096 128 o)
    (n : ℕ) (off : Fin 2 → ℕ) (hoff : off = ![512 * n, 0]) (inb) :
    b.view.readAt (Elt Ideal) (Rect.unit (s := S4096x128) off ![512, 128] inb).toLoadRect X
      = up2 512 128 fun s d => o (512 * n + s) d := by
  funext j
  refine (congrFun h _).trans ?_
  subst hoff
  refine congrArg (fun x : ℝ => (x : EReal)) ?_
  refine congrArg₂ o ?_ ?_
  · show 512 * n + 1 * (j 0).val = _
    rw [one_mul]
  · show 0 + 1 * (j 1).val = _
    rw [one_mul, zero_add]

/-- A store of the 512 rows from `512 n` on. -/
theorem store_rows (G : b.view.ty.Contents (Elt Ideal)) (L : List (View.Piece (Elt Ideal) S4096x128 .f32))
    (o f : ℕ → ℕ → ℝ) (h : b.view.read (Elt Ideal) (b.view.writes (Elt Ideal) G L) = up2 4096 128 o)
    (n : ℕ) (off : Fin 2 → ℕ) (hoff : off = ![512 * n, 0]) (inb) (w : (Rect.unit (s := S4096x128) off ![512, 128] inb).shape.Idx → EReal)
    (hw : w = up2 512 128 fun s d => f (512 * n + s) d) :
    b.view.read (Elt Ideal) (b.view.writes (Elt Ideal) G (⟨Rect.unit (s := S4096x128) off ![512, 128] inb, w⟩ :: L))
      = up2 4096 128 fun s d => if 512 * n ≤ s ∧ s < 512 * n + 512 then f s d else o s d := by
  subst hw
  funext j
  by_cases hj : 512 * n ≤ (j 0).val ∧ (j 0).val < 512 * n + 512
  · have hx : (j 0).val - 512 * n < 512 := by omega
    refine (View.read_writes_cons_rows_of_mem (o := 512 * n) b.view G inb _ L j
      (ix2 ⟨(j 0).val - 512 * n, hx⟩ (j 1)) hoff ?_ rfl).trans ?_
    · show (j 0).val = 512 * n + ((j 0).val - 512 * n)
      omega
    · refine congrArg (fun x : ℝ => (x : EReal)) (Eq.trans ?_ (if_pos hj).symm)
      exact congrArg (f · (j 1).val) (Nat.add_sub_cancel' hj.1)
  · refine (View.read_writes_cons_rows_of_not_mem (o := 512 * n) (W := 512) b.view G inb _ L j hoff rfl (by omega)).trans ?_
    exact (congrFun h j).trans (congrArg (fun x : ℝ => (x : EReal)) (if_neg hj).symm)

end Rows

section Gate

variable {b : Memref sig .tc .vmem S1x8x1x512 .f32}

/-- A load of the gate's tile `n`. -/
theorem load_gate (X : b.view.ty.Contents (Elt Ideal)) (o : ℕ → ℝ) (h : b.view.read (Elt Ideal) X = upc o)
    (n : ℕ) (off : Fin 4 → ℕ) (hoff : off = ![0, n, 0, 0]) (inb) :
    b.view.readAt (Elt Ideal) (Rect.unit (s := S1x8x1x512) off ![1, 1, 1, 512] inb).toLoadRect X
      = up4 fun s => o (512 * n + s) := by
  funext j
  refine (congrFun h _).trans ?_
  subst hoff
  refine congrArg (fun x : ℝ => (x : EReal)) ?_
  refine congrArg o ?_
  have h1 := (j 1).isLt
  show 512 * (n + 1 * (j 1).val) + (0 + 1 * (j 3).val) = 512 * n + (j 3).val
  have : (j 1).val < 1 := h1
  omega

/-- A store of the gate's tile `n`. -/
theorem store_gate (G : b.view.ty.Contents (Elt Ideal)) (L : List (View.Piece (Elt Ideal) S1x8x1x512 .f32))
    (o f : ℕ → ℝ) (h : b.view.read (Elt Ideal) (b.view.writes (Elt Ideal) G L) = upc o)
    (n : ℕ) (off : Fin 4 → ℕ) (hoff : off = ![0, n, 0, 0]) (inb) (w : (Rect.unit (s := S1x8x1x512) off ![1, 1, 1, 512] inb).shape.Idx → EReal)
    (hw : w = up4 fun s => f (512 * n + s)) :
    b.view.read (Elt Ideal) (b.view.writes (Elt Ideal) G (⟨Rect.unit (s := S1x8x1x512) off ![1, 1, 1, 512] inb, w⟩ :: L))
      = upc fun s => if 512 * n ≤ s ∧ s < 512 * n + 512 then f s else o s := by
  subst hw
  funext j
  have h0 : (j 0).val < 1 := (j 0).isLt
  have h2 : (j 2).val < 1 := (j 2).isLt
  have h3 : (j 3).val < 512 := (j 3).isLt
  by_cases hj : (j 1).val = n
  · refine (View.read_writes_cons_unit_of_mem b.view G inb _ L j (ix4 (0 : Fin 1) (0 : Fin 1) (0 : Fin 1) (j 3)) hoff ?_).trans ?_
    · intro a
      fin_cases a
      · show (j 0).val = 0 + 0
        omega
      · show (j 1).val = n + 0
        omega
      · show (j 2).val = 0 + 0
        omega
      · show (j 3).val = 0 + (j 3).val
        omega
    · refine congrArg (fun x : ℝ => (x : EReal)) ?_
      have hc : 512 * n ≤ 512 * (j 1).val + (j 3).val ∧ 512 * (j 1).val + (j 3).val < 512 * n + 512 := by omega
      refine Eq.trans ?_ (if_pos hc).symm
      refine congrArg f ?_
      show 512 * n + (j 3).val = _
      omega
  · refine (View.read_writes_cons_unit_of_not_mem b.view G inb _ L j hoff 1 ?_).trans ?_
    · show (j 1).val < n ∨ n + 1 ≤ (j 1).val
      omega
    · have hc : ¬ (512 * n ≤ 512 * (j 1).val + (j 3).val ∧ 512 * (j 1).val + (j 3).val < 512 * n + 512) := by omega
      exact (congrFun h j).trans (congrArg (fun x : ℝ => (x : EReal)) (if_neg hc).symm)

end Gate

end Cert.Fox
-- ==== Proof.Trip.lean ====
/- The loop over the key tiles left of the diagonal: one trip on real tiles, and the state before any trip. -/
module

public import proofs.«01_k».proof.Proof.Rows

@[expose] public section

set_option maxRecDepth 16384

noncomputable section

namespace Cert.Fox

open Cert.KernelIdeal Cert.KernelIdeal.Gen Idealize.ShloMosaic Idealize.ShloMosaic.TcCoe
open scoped BigOperators

theorem t1_trips : ∀ i : grid0.Coords, (k0_t1_loop i).trips = (i 1).val := by decide +kernel

theorem t2_trips : ∀ i : grid0.Coords, (k0_t2_loop i).trips = 0 := by decide +kernel

variable (c : Dev nD) (i : grid0.Coords)
  (arg2 : Memref sig .tc .vmem S512x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .f32) (harg7 : arg7.IsWhole)
  (arg8 : Memref sig .tc .vmem S1x8x1x512 .f32) (harg8 : arg8.IsWhole)
  (arg9 : Memref sig .tc .vmem S512x128 .bf16) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S1x8x1x512 .f32) (harg12 : arg12.IsWhole)
  (arg13 : Memref sig .tc .vmem S512x128 .f32) (harg13 : arg13.IsWhole)
  (v3 : Vec Ideal S512x128 .f32) (v7 : Vec Ideal S512x128 .bf16) (v10 : Vec Ideal S512x128 .bf16) (v16 : Vec Ideal S512x128 .f32)
  (X3 : arg3.view.ty.Contents (Elt Ideal)) (X4 : arg4.view.ty.Contents (Elt Ideal)) (X8 : arg8.view.ty.Contents (Elt Ideal))

/-- What one query block has loaded: the scaled queries `q`, the cotangent `g`, its row mean `δ`, the log-sum-exp `l`, and
   the head's keys `k`, values `v` and gate `γ`. -/
structure Loaded (q g k v : ℕ → ℕ → ℝ) (l δ γ : ℕ → ℝ) : Prop where
  hq : k0_pay21 (F := Ideal) v3 = up2 512 128 q
  hg : k0_pay23 (F := Ideal) v7 = up2 512 128 g
  hδ : k0_pay24 (F := Ideal) v7 v10 = up2 512 1 fun r _ => δ r
  hl : k0_pay25 (F := Ideal) v16 = up2 512 512 fun r _ => l r
  hk : arg3.view.read (Elt Ideal) X3 = up2 4096 128 k
  hv : arg4.view.read (Elt Ideal) X4 = up2 4096 128 v
  hc : arg8.view.read (Elt Ideal) X8 = upc γ

section

variable (q g k v : ℕ → ℕ → ℝ) (l δ γ : ℕ → ℝ)
  (H : Loaded arg3 arg4 arg8 v3 v7 v10 v16 X3 X4 X8 q g k v l δ γ)

/-- The gradient of the scores of the whole row, before the mask. -/
def dsU (r s : ℕ) : ℝ := dsOf (pf q k l γ) g v δ r s

include H

theorem trip_dq (n : Fin (k0_t1_loop i).trips) (acc : FVec Ideal S512x128 .f32 × FVec Ideal S512x1 .f32) (f10 f11 f12)
    (a : ℕ → ℕ → ℝ) (b : ℕ → ℝ) (ha : acc.1 = up2 512 128 a) (hb : acc.2 = up2 512 1 fun r _ => b r) :
    tripR_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 n acc f10 f11 f12
      = (up2 512 128 fun r d => a r d + (∑ s : Fin 512, dsU q g k v l δ γ r (512 * n.val + s) * k (512 * n.val + s) d) * (Real.sqrt 128)⁻¹,
         up2 512 1 fun r _ => b r + ∑ s : Fin 512, dsU q g k v l δ γ r (512 * n.val + s)) := by
  have e1 := load_rows X3 k H.hk n.val (k0_off1 i n) (k0_off1_eq i n) (k0_off1_inb i n)
  have e2 := load_rows X4 v H.hv n.val (k0_off1 i n) (k0_off1_eq i n) (k0_off1_inb i n)
  have e3 := load_gate X8 γ H.hc n.val (k0_off2 i n) (k0_off2_eq i n) (k0_off2_inb i n)
  unfold tripR_k0_t1 trip_k0_t1
  dsimp only
  refine Prod.ext ?_ ?_
  · show trip_k0_t1.sl.r_1 i arg3 arg4 arg8 v3 v7 v10 v16 X3 X4 X8 n acc = _
    unfold trip_k0_t1.sl.r_1
    have e5 : k0_pay8 (F := Ideal) = k0_pay15 := rfl
    rw [H.hq, H.hg, H.hδ, H.hl, e1, e2, e3, ha, e5]
    exact tile_dq ..
  · show k0_pay30 acc.2 (trip_k0_t1.sl.r i arg3 arg4 arg8 v3 v7 v10 v16 X3 X4 X8 n) = _
    unfold trip_k0_t1.sl.r
    have e5 : k0_pay6 (F := Ideal) = k0_pay13 := rfl
    have e6 : k0_pay30 (F := Ideal) = k0_pay32 := rfl
    rw [H.hq, H.hg, H.hδ, H.hl, e1, e2, e3, hb, e5, e6, tile_ds]
    exact tile_rows ..

theorem trip_dk (n : Fin (k0_t1_loop i).trips) (acc : FVec Ideal S512x128 .f32 × FVec Ideal S512x1 .f32) (G f11 f12)
    (L : List (View.Piece (Elt Ideal) S4096x128 .f32)) (o : ℕ → ℕ → ℝ)
    (ho : arg10.view.read (Elt Ideal) (arg10.view.writes (Elt Ideal) G L) = up2 4096 128 o) :
    arg10.view.read (Elt Ideal) (arg10.view.writes (Elt Ideal) G
      ((tripL_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 n acc
        (arg10.view.writes (Elt Ideal) G L) f11 f12).1 ++ L))
      = up2 4096 128 fun s d => if 512 * n.val ≤ s ∧ s < 512 * n.val + 512 then
          o s d + (∑ r : Fin 512, dsU q g k v l δ γ r s * q r d) * Real.log 2 else o s d := by
  have e1 := load_rows X3 k H.hk n.val (k0_off1 i n) (k0_off1_eq i n) (k0_off1_inb i n)
  have e2 := load_rows X4 v H.hv n.val (k0_off1 i n) (k0_off1_eq i n) (k0_off1_inb i n)
  have e3 := load_gate X8 γ H.hc n.val (k0_off2 i n) (k0_off2_eq i n) (k0_off2_inb i n)
  have e4 := load_rows (b := arg10) _ o ho n.val (k0_off1 i n) (k0_off1_eq i n) (k0_off1_inb i n)
  unfold tripL_k0_t1 trip_k0_t1
  dsimp only
  refine store_rows (b := arg10) G L o (fun s d => o s d + (∑ r : Fin 512, dsU q g k v l δ γ r s * q r d) * Real.log 2) ho n.val
    (k0_off1 i n) (k0_off1_eq i n) (k0_off1_inb i n) _ ?_
  have e5 : k0_pay9 (F := Ideal) = k0_pay16 := rfl
  rw [H.hq, H.hg, H.hδ, H.hl, e1, e2, e3, e4, e5]
  exact tile_dk ..

theorem trip_dv (n : Fin (k0_t1_loop i).trips) (acc : FVec Ideal S512x128 .f32 × FVec Ideal S512x1 .f32) (G f10 f12)
    (L : List (View.Piece (Elt Ideal) S4096x128 .f32)) (o : ℕ → ℕ → ℝ)
    (ho : arg11.view.read (Elt Ideal) (arg11.view.writes (Elt Ideal) G L) = up2 4096 128 o) :
    arg11.view.read (Elt Ideal) (arg11.view.writes (Elt Ideal) G
      ((tripL_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 n acc
        f10 (arg11.view.writes (Elt Ideal) G L) f12).2.1 ++ L))
      = up2 4096 128 fun s d => if 512 * n.val ≤ s ∧ s < 512 * n.val + 512 then
          o s d + (∑ r : Fin 512, pf q k l γ r s * g r d) else o s d := by
  have e1 := load_rows X3 k H.hk n.val (k0_off1 i n) (k0_off1_eq i n) (k0_off1_inb i n)
  have e3 := load_gate X8 γ H.hc n.val (k0_off2 i n) (k0_off2_eq i n) (k0_off2_inb i n)
  have e4 := load_rows (b := arg11) _ o ho n.val (k0_off1 i n) (k0_off1_eq i n) (k0_off1_inb i n)
  unfold tripL_k0_t1 trip_k0_t1
  dsimp only
  refine store_rows (b := arg11) G L o (fun s d => o s d + (∑ r : Fin 512, pf q k l γ r s * g r d)) ho n.val
    (k0_off1 i n) (k0_off1_eq i n) (k0_off1_inb i n) _ ?_
  have e5 : k0_pay10 (F := Ideal) = k0_pay17 := rfl
  unfold trip_k0_t1.sl.r_2
  rw [H.hq, H.hg, H.hl, e1, e3, e4, e5]
  exact tile_dv ..

theorem trip_dck (n : Fin (k0_t1_loop i).trips) (acc : FVec Ideal S512x128 .f32 × FVec Ideal S512x1 .f32) (G f10 f11)
    (L : List (View.Piece (Elt Ideal) S1x8x1x512 .f32)) (o : ℕ → ℝ)
    (ho : arg12.view.read (Elt Ideal) (arg12.view.writes (Elt Ideal) G L) = upc o) :
    arg12.view.read (Elt Ideal) (arg12.view.writes (Elt Ideal) G
      ((tripL_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 n acc
        f10 f11 (arg12.view.writes (Elt Ideal) G L)).2.2 ++ L))
      = upc fun s => if 512 * n.val ≤ s ∧ s < 512 * n.val + 512 then
          o s - (∑ r : Fin 512, dsU q g k v l δ γ r s) else o s := by
  have e1 := load_rows X3 k H.hk n.val (k0_off1 i n) (k0_off1_eq i n) (k0_off1_inb i n)
  have e2 := load_rows X4 v H.hv n.val (k0_off1 i n) (k0_off1_eq i n) (k0_off1_inb i n)
  have e3 := load_gate X8 γ H.hc n.val (k0_off2 i n) (k0_off2_eq i n) (k0_off2_inb i n)
  have e4 := load_gate (b := arg12) _ o ho n.val (k0_off2 i n) (k0_off2_eq i n) (k0_off2_inb i n)
  unfold tripL_k0_t1 trip_k0_t1
  dsimp only
  refine store_gate (b := arg12) G L o (fun s => o s - (∑ r : Fin 512, dsU q g k v l δ γ r s)) ho n.val
    (k0_off2 i n) (k0_off2_eq i n) (k0_off2_inb i n) _ ?_
  unfold trip_k0_t1.sl.r
  have e5 : k0_pay6 (F := Ideal) = k0_pay13 := rfl
  have e6 : k0_pay29 (F := Ideal) = k0_pay31 := rfl
  rw [H.hq, H.hg, H.hδ, H.hl, e1, e2, e3, e4, e5, e6, tile_ds]
  exact tile_dck ..

end

end Cert.Fox
-- ==== Proof.Loop.lean ====
/- The loop over the key tiles left of the diagonal: the state before any trip. -/
module

public import proofs.«01_k».proof.Proof.Trip

@[expose] public section

set_option maxRecDepth 16384

noncomputable section

namespace Cert.Fox

open Cert.KernelIdeal Cert.KernelIdeal.Gen Idealize.ShloMosaic Idealize.ShloMosaic.TcCoe
open scoped BigOperators

variable (c : Dev nD) (i : grid0.Coords)
  (arg2 : Memref sig .tc .vmem S512x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .f32) (harg7 : arg7.IsWhole)
  (arg8 : Memref sig .tc .vmem S1x8x1x512 .f32) (harg8 : arg8.IsWhole)
  (arg9 : Memref sig .tc .vmem S512x128 .bf16) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S1x8x1x512 .f32) (harg12 : arg12.IsWhole)
  (arg13 : Memref sig .tc .vmem S512x128 .f32) (harg13 : arg13.IsWhole)
  (v3 : Vec Ideal S512x128 .f32) (v7 : Vec Ideal S512x128 .bf16) (v10 : Vec Ideal S512x128 .bf16) (v16 : Vec Ideal S512x128 .f32)
  (X3 : arg3.view.ty.Contents (Elt Ideal)) (X4 : arg4.view.ty.Contents (Elt Ideal)) (X8 : arg8.view.ty.Contents (Elt Ideal))

  (q g k v : ℕ → ℕ → ℝ) (l δ γ : ℕ → ℝ)
  (H : Loaded arg3 arg4 arg8 v3 v7 v10 v16 X3 X4 X8 q g k v l δ γ)

include H

/-- The state before trip `n`: the two carried sums over the first `n` tiles, and the three accumulators with the tiles
   before `n` added. -/
theorem loop_state (G10 : arg10.view.ty.Contents (Elt Ideal)) (G11 : arg11.view.ty.Contents (Elt Ideal))
    (G12 : arg12.view.ty.Contents (Elt Ideal)) (a b : ℕ → ℕ → ℝ) (e : ℕ → ℝ)
    (ha : arg10.view.read (Elt Ideal) G10 = up2 4096 128 a) (hb : arg11.view.read (Elt Ideal) G11 = up2 4096 128 b)
    (he : arg12.view.read (Elt Ideal) G12 = upc e) : ∀ n : ℕ, n ≤ (k0_t1_loop i).trips →
    (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) n).1
      = (up2 512 128 fun r d => (∑ j ∈ Finset.range n, ∑ s : Fin 512, dsU q g k v l δ γ r (512 * j + s) * k (512 * j + s) d) * (Real.sqrt 128)⁻¹,
         up2 512 1 fun r _ => ∑ j ∈ Finset.range n, ∑ s : Fin 512, dsU q g k v l δ γ r (512 * j + s)) ∧
    arg10.view.read (Elt Ideal) (arg10.view.writes (Elt Ideal) G10 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) n).2.1)
      = (up2 4096 128 fun s d => if s < 512 * n then a s d + (∑ r : Fin 512, dsU q g k v l δ γ r s * q r d) * Real.log 2 else a s d) ∧
    arg11.view.read (Elt Ideal) (arg11.view.writes (Elt Ideal) G11 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) n).2.2.1)
      = (up2 4096 128 fun s d => if s < 512 * n then b s d + (∑ r : Fin 512, pf q k l γ r s * g r d) else b s d) ∧
    arg12.view.read (Elt Ideal) (arg12.view.writes (Elt Ideal) G12 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) n).2.2.2)
      = upc fun s => if s < 512 * n then e s - (∑ r : Fin 512, dsU q g k v l δ γ r s) else e s := by
  intro n
  induction n with
  | zero =>
    intro _
    refine ⟨Prod.ext ?_ ?_, ?_, ?_, ?_⟩
    · refine tile_zero.trans ?_
      simp
    · refine tile_zero_rows.trans ?_
      simp
    · refine ha.trans ?_
      simp
    · refine hb.trans ?_
      simp
    · refine he.trans ?_
      simp
  | succ n ih =>
    intro hn
    obtain ⟨i1, i2, i3, i4⟩ := ih (Nat.le_of_succ_le hn)
    have es := st_k0_t1_succ (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) ⟨n, hn⟩
    dsimp only at es
    rw [es]
    refine ⟨?_, ?_, ?_, ?_⟩
    · refine (trip_dq (H := H)
        (a := fun r d => (∑ j ∈ Finset.range n, ∑ s : Fin 512, dsU q g k v l δ γ r (512 * j + s) * k (512 * j + s) d) * (Real.sqrt 128)⁻¹)
        (b := fun r => ∑ j ∈ Finset.range n, ∑ s : Fin 512, dsU q g k v l δ γ r (512 * j + s)) (ha := (congrArg Prod.fst i1)) (hb := (congrArg Prod.snd i1)) ..).trans ?_
      simp only [Finset.sum_range_succ, add_mul]
    · refine (trip_dk (H := H) (ho := i2) ..).trans ?_
      congr 1
      funext s d
      dsimp only
      split_ifs <;> first | rfl | omega
    · refine (trip_dv (H := H) (ho := i3) ..).trans ?_
      congr 1
      funext s d
      dsimp only
      split_ifs <;> first | rfl | omega
    · refine (trip_dck (H := H) (ho := i4) ..).trans ?_
      congr 1
      funext s
      dsimp only
      split_ifs <;> first | rfl | omega

end Cert.Fox
-- ==== Proof.Point.lean ====
/- One grid point: the loop over the tiles left of the diagonal and the masked tile on it, together. -/
module

public import proofs.«01_k».proof.Proof.Loop

@[expose] public section

set_option maxRecDepth 16384

noncomputable section

namespace Cert.Fox

open Cert.KernelIdeal Cert.KernelIdeal.Gen Idealize.ShloMosaic Idealize.ShloMosaic.TcCoe
open scoped BigOperators

/-- The probability of a query of block `n` under the causal mask: zero at a later key. -/
def pg (n : ℕ) (q k : ℕ → ℕ → ℝ) (l γ : ℕ → ℝ) (r s : ℕ) : ℝ := if s ≤ 512 * n + r then (2 : ℝ) ^ ex q k l γ r s else 0

/-- The gradient of the scores of a query of block `n`. -/
def dg (n : ℕ) (q g k v : ℕ → ℕ → ℝ) (l δ γ : ℕ → ℝ) (r s : ℕ) : ℝ := dsOf (pg n q k l γ) g v δ r s

section

variable (n : ℕ) (q g k v : ℕ → ℕ → ℝ) (l δ γ : ℕ → ℝ)

theorem pg_diag : pm q (fun s d => k (512 * n + s) d) l (fun s => γ (512 * n + s)) = fun r s => pg n q k l γ r (512 * n + s) := by
  funext r s
  unfold pm pg
  simp only [Nat.add_le_add_iff_left]
  rfl

theorem dg_diag (r s : ℕ) : dsOf (pm q (fun s d => k (512 * n + s) d) l (fun s => γ (512 * n + s))) g (fun s d => v (512 * n + s) d) δ r s
    = dg n q g k v l δ γ r (512 * n + s) := by
  rw [pg_diag]
  rfl

theorem pg_left (r s : ℕ) (h : s < 512 * n) : pf q k l γ r s = pg n q k l γ r s := (if_pos (by omega)).symm

theorem dg_left (r s : ℕ) (h : s < 512 * n) : dsU q g k v l δ γ r s = dg n q g k v l δ γ r s := by
  unfold dsU dg dsOf
  rw [pg_left n q k l γ r s h]

theorem pg_right (r s : ℕ) (hr : r < 512) (h : 512 * n + 512 ≤ s) : pg n q k l γ r s = 0 := if_neg (by omega)

theorem dg_right (r s : ℕ) (hr : r < 512) (h : 512 * n + 512 ≤ s) : dg n q g k v l δ γ r s = 0 := by
  unfold dg dsOf
  rw [pg_right n q k l γ r s hr h, zero_mul]

/-- A sum over all keys, tile by tile, when nothing comes after tile `n`. -/
theorem sum_tiles (f : ℕ → ℝ) (hn : n < 8) (h : ∀ s, 512 * n + 512 ≤ s → f s = 0) :
    (∑ j ∈ Finset.range n, ∑ s : Fin 512, f (512 * j + s)) + ∑ s : Fin 512, f (512 * n + s) = ∑ s : Fin 4096, f s := by
  have e : ∀ m : ℕ, ∑ j ∈ Finset.range m, ∑ s : Fin 512, f (512 * j + s) = ∑ s ∈ Finset.range (512 * m), f s := fun m => by
    induction m with
    | zero => rfl
    | succ m ih =>
      rw [Finset.sum_range_succ, ih, Nat.mul_succ, Finset.sum_range_add, Finset.sum_range (n := 512)]
  have e1 := e (n + 1)
  rw [Finset.sum_range_succ] at e1
  rw [e1, ← Finset.sum_range f]
  refine Finset.sum_subset (fun x hx => ?_) fun x _ hx => h x ?_
  · rw [Finset.mem_range] at *
    omega
  · rw [Finset.mem_range] at hx
    omega

end

variable (c : Dev nD) (i : grid0.Coords)
  (arg2 : Memref sig .tc .vmem S512x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .f32) (harg7 : arg7.IsWhole)
  (arg8 : Memref sig .tc .vmem S1x8x1x512 .f32) (harg8 : arg8.IsWhole)
  (arg9 : Memref sig .tc .vmem S512x128 .bf16) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S1x8x1x512 .f32) (harg12 : arg12.IsWhole)
  (arg13 : Memref sig .tc .vmem S512x128 .f32) (harg13 : arg13.IsWhole)
  (v3 : Vec Ideal S512x128 .f32) (v7 : Vec Ideal S512x128 .bf16) (v10 : Vec Ideal S512x128 .bf16) (v16 : Vec Ideal S512x128 .f32)
  (X3 : arg3.view.ty.Contents (Elt Ideal)) (X4 : arg4.view.ty.Contents (Elt Ideal)) (X8 : arg8.view.ty.Contents (Elt Ideal))

  (q g k v : ℕ → ℕ → ℝ) (l δ γ : ℕ → ℝ)
  (H : Loaded arg3 arg4 arg8 v3 v7 v10 v16 X3 X4 X8 q g k v l δ γ)

include H

theorem load_diag_k : k0_pay33 (F := Ideal) (arg3.view.readAt (Elt Ideal) (Rect.unit (s := S4096x128) (k0_off5 i) ![512, 128] (k0_off5_inb i)).toLoadRect X3)
    = up2 512 128 fun s d => k (512 * (i 1).val + s) d := by
  rw [load_rows X3 k H.hk (i 1).val (k0_off5 i) (k0_off5_eq i) (k0_off5_inb i)]
  rfl

theorem load_diag_v : arg4.view.readAt (Elt Ideal) (Rect.unit (s := S4096x128) (k0_off5 i) ![512, 128] (k0_off5_inb i)).toLoadRect X4
    = up2 512 128 fun s d => v (512 * (i 1).val + s) d :=
  load_rows X4 v H.hv (i 1).val (k0_off5 i) (k0_off5_eq i) (k0_off5_inb i)

theorem load_diag_c : arg8.view.readAt (Elt Ideal) (Rect.unit (s := S1x8x1x512) (k0_off6 i) ![1, 1, 1, 512] (k0_off6_inb i)).toLoadRect X8
    = up4 fun s => γ (512 * (i 1).val + s) :=
  load_gate X8 γ H.hc (i 1).val (k0_off6 i) (k0_off6_eq i) (k0_off6_inb i)

section

variable (G10 : arg10.view.ty.Contents (Elt Ideal)) (G11 : arg11.view.ty.Contents (Elt Ideal)) (G12 : arg12.view.ty.Contents (Elt Ideal))
  (a b : ℕ → ℕ → ℝ) (e : ℕ → ℝ)
  (ha : arg10.view.read (Elt Ideal) G10 = up2 4096 128 a) (hb : arg11.view.read (Elt Ideal) G11 = up2 4096 128 b)
  (he : arg12.view.read (Elt Ideal) G12 = upc e)

include ha hb he

theorem point_dk :
    arg10.view.read (Elt Ideal) (arg10.view.writes (Elt Ideal) G10
      (⟨Rect.unit (s := S4096x128) (k0_off5 i) ![512, 128] (k0_off5_inb i), k0_pay38 (k0_pay21 v3) (k0_pay23 v7) (k0_pay24 v7 v10) (k0_pay25 v16) k0_pay26
        (k0_pay33 (arg3.view.readAt (Elt Ideal) (Rect.unit (s := S4096x128) (k0_off5 i) ![512, 128] (k0_off5_inb i)).toLoadRect X3))
        (arg4.view.readAt (Elt Ideal) (Rect.unit (s := S4096x128) (k0_off5 i) ![512, 128] (k0_off5_inb i)).toLoadRect X4)
        (arg8.view.readAt (Elt Ideal) (Rect.unit (s := S1x8x1x512) (k0_off6 i) ![1, 1, 1, 512] (k0_off6_inb i)).toLoadRect X8)
        (arg10.view.readAt (Elt Ideal) (Rect.unit (s := S4096x128) (k0_off5 i) ![512, 128] (k0_off5_inb i)).toLoadRect (arg10.view.writes (Elt Ideal) G10 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).2.1))⟩
        :: (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).2.1))
      = up2 4096 128 fun s d => a s d + (∑ r : Fin 512, dg (i 1).val q g k v l δ γ r s * q r d) * Real.log 2 := by
  obtain ⟨-, h1, -, -⟩ := loop_state c i arg2 harg2 arg3 harg3 arg4 harg4 arg5 harg5 arg6 harg6 arg7 harg7 arg8 harg8 arg9 harg9 arg10 harg10 arg11 harg11 arg12 harg12 arg13 harg13
      v3 v7 v10 v16 X3 X4 X8
    q g k v l δ γ H G10 G11 G12 a b e ha hb he _ le_rfl
  have ht := t1_trips i
  have hi : (i 1).val < 8 := (i 1).isLt
  have e4 := load_rows (b := arg10) _ _ h1 (i 1).val (k0_off5 i) (k0_off5_eq i) (k0_off5_inb i)
  refine (store_rows (b := arg10) G10 _ _ (fun s d => a s d + (∑ r : Fin 512, dg (i 1).val q g k v l δ γ r s * q r d) * Real.log 2) h1
    (i 1).val (k0_off5 i) (k0_off5_eq i) (k0_off5_inb i) _ ?_).trans ?_
  · rw [H.hq, H.hg, H.hδ, H.hl, load_diag_k (H := H), load_diag_v (H := H), load_diag_c (H := H), e4]
    refine (tile_dkm ..).trans ?_
    congr 1
    funext s d
    rw [if_neg (by omega)]
    simp only [dg_diag]
  · congr 1
    funext s d
    dsimp only
    split_ifs with h2 h3
    · rfl
    · congr 2
      exact Finset.sum_congr rfl fun r _ => by rw [dg_left (i 1).val q g k v l δ γ r s (by omega)]
    · rw [Finset.sum_eq_zero fun r _ => by rw [dg_right (i 1).val q g k v l δ γ r s r.isLt (by omega), zero_mul], zero_mul, add_zero]

theorem point_dv :
    arg11.view.read (Elt Ideal) (arg11.view.writes (Elt Ideal) G11
      (⟨Rect.unit (s := S4096x128) (k0_off5 i) ![512, 128] (k0_off5_inb i), k0_pay39 (k0_pay21 v3) (k0_pay23 v7) (k0_pay25 v16) k0_pay26
        (k0_pay33 (arg3.view.readAt (Elt Ideal) (Rect.unit (s := S4096x128) (k0_off5 i) ![512, 128] (k0_off5_inb i)).toLoadRect X3))
        (arg8.view.readAt (Elt Ideal) (Rect.unit (s := S1x8x1x512) (k0_off6 i) ![1, 1, 1, 512] (k0_off6_inb i)).toLoadRect X8)
        (arg11.view.readAt (Elt Ideal) (Rect.unit (s := S4096x128) (k0_off5 i) ![512, 128] (k0_off5_inb i)).toLoadRect (arg11.view.writes (Elt Ideal) G11 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).2.2.1))⟩
        :: (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).2.2.1))
      = up2 4096 128 fun s d => b s d + ∑ r : Fin 512, pg (i 1).val q k l γ r s * g r d := by
  obtain ⟨-, -, h1, -⟩ := loop_state c i arg2 harg2 arg3 harg3 arg4 harg4 arg5 harg5 arg6 harg6 arg7 harg7 arg8 harg8 arg9 harg9 arg10 harg10 arg11 harg11 arg12 harg12 arg13 harg13
      v3 v7 v10 v16 X3 X4 X8
    q g k v l δ γ H G10 G11 G12 a b e ha hb he _ le_rfl
  have ht := t1_trips i
  have hi : (i 1).val < 8 := (i 1).isLt
  have e4 := load_rows (b := arg11) _ _ h1 (i 1).val (k0_off5 i) (k0_off5_eq i) (k0_off5_inb i)
  refine (store_rows (b := arg11) G11 _ _ (fun s d => b s d + ∑ r : Fin 512, pg (i 1).val q k l γ r s * g r d) h1
    (i 1).val (k0_off5 i) (k0_off5_eq i) (k0_off5_inb i) _ ?_).trans ?_
  · rw [H.hq, H.hg, H.hl, load_diag_k (H := H), load_diag_c (H := H), e4]
    refine (tile_dvm ..).trans ?_
    congr 1
    funext s d
    rw [if_neg (by omega)]
    simp only [pg_diag]
  · congr 1
    funext s d
    dsimp only
    split_ifs with h2 h3
    · rfl
    · congr 1
      exact Finset.sum_congr rfl fun r _ => by rw [pg_left (i 1).val q k l γ r s (by omega)]
    · rw [Finset.sum_eq_zero fun r _ => by rw [pg_right (i 1).val q k l γ r s r.isLt (by omega), zero_mul], add_zero]

theorem point_dck :
    arg12.view.read (Elt Ideal) (arg12.view.writes (Elt Ideal) G12
      (⟨Rect.unit (s := S1x8x1x512) (k0_off6 i) ![1, 1, 1, 512] (k0_off6_inb i), k0_pay1 (k0_pay35 (k0_pay21 v3) (k0_pay23 v7) (k0_pay24 v7 v10) (k0_pay25 v16) k0_pay26
        (k0_pay33 (arg3.view.readAt (Elt Ideal) (Rect.unit (s := S4096x128) (k0_off5 i) ![512, 128] (k0_off5_inb i)).toLoadRect X3))
        (arg4.view.readAt (Elt Ideal) (Rect.unit (s := S4096x128) (k0_off5 i) ![512, 128] (k0_off5_inb i)).toLoadRect X4)
        (arg8.view.readAt (Elt Ideal) (Rect.unit (s := S1x8x1x512) (k0_off6 i) ![1, 1, 1, 512] (k0_off6_inb i)).toLoadRect X8))
        (arg12.view.readAt (Elt Ideal) (Rect.unit (s := S1x8x1x512) (k0_off6 i) ![1, 1, 1, 512] (k0_off6_inb i)).toLoadRect (arg12.view.writes (Elt Ideal) G12 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).2.2.2))⟩
        :: (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).2.2.2))
      = upc fun s => e s - ∑ r : Fin 512, dg (i 1).val q g k v l δ γ r s := by
  obtain ⟨-, -, -, h1⟩ := loop_state c i arg2 harg2 arg3 harg3 arg4 harg4 arg5 harg5 arg6 harg6 arg7 harg7 arg8 harg8 arg9 harg9 arg10 harg10 arg11 harg11 arg12 harg12 arg13 harg13
      v3 v7 v10 v16 X3 X4 X8
    q g k v l δ γ H G10 G11 G12 a b e ha hb he _ le_rfl
  have ht := t1_trips i
  have hi : (i 1).val < 8 := (i 1).isLt
  have e4 := load_gate (b := arg12) _ _ h1 (i 1).val (k0_off6 i) (k0_off6_eq i) (k0_off6_inb i)
  refine (store_gate (b := arg12) G12 _ _ (fun s => e s - ∑ r : Fin 512, dg (i 1).val q g k v l δ γ r s) h1
    (i 1).val (k0_off6 i) (k0_off6_eq i) (k0_off6_inb i) _ ?_).trans ?_
  · rw [H.hq, H.hg, H.hδ, H.hl, load_diag_k (H := H), load_diag_v (H := H), load_diag_c (H := H), e4, tile_dsm]
    refine (tile_dckm ..).trans ?_
    congr 1
    funext s
    rw [if_neg (by omega)]
    simp only [dg_diag]
  · congr 1
    funext s
    dsimp only
    split_ifs with h2 h3
    · rfl
    · congr 1
      exact Finset.sum_congr rfl fun r _ => by rw [dg_left (i 1).val q g k v l δ γ r s (by omega)]
    · rw [Finset.sum_eq_zero fun r _ => by rw [dg_right (i 1).val q g k v l δ γ r s r.isLt (by omega)], sub_zero]

theorem point_dq :
    k0_pay2 (k0_pay37 (k0_pay21 v3) (k0_pay23 v7) (k0_pay24 v7 v10) (k0_pay25 v16) k0_pay26 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).1.1
        (k0_pay33 (arg3.view.readAt (Elt Ideal) (Rect.unit (s := S4096x128) (k0_off5 i) ![512, 128] (k0_off5_inb i)).toLoadRect X3))
        (arg4.view.readAt (Elt Ideal) (Rect.unit (s := S4096x128) (k0_off5 i) ![512, 128] (k0_off5_inb i)).toLoadRect X4)
        (arg8.view.readAt (Elt Ideal) (Rect.unit (s := S1x8x1x512) (k0_off6 i) ![1, 1, 1, 512] (k0_off6_inb i)).toLoadRect X8))
      = up2 512 128 fun r d => (∑ s : Fin 4096, dg (i 1).val q g k v l δ γ r s * k s d) * (Real.sqrt 128)⁻¹ := by
  obtain ⟨h1, -, -, -⟩ := loop_state c i arg2 harg2 arg3 harg3 arg4 harg4 arg5 harg5 arg6 harg6 arg7 harg7 arg8 harg8 arg9 harg9 arg10 harg10 arg11 harg11 arg12 harg12 arg13 harg13
      v3 v7 v10 v16 X3 X4 X8
    q g k v l δ γ H G10 G11 G12 a b e ha hb he _ le_rfl
  have ht := t1_trips i
  have hi : (i 1).val < 8 := (i 1).isLt
  have h2 := congrArg Prod.fst h1
  dsimp only at h2
  rw [H.hq, H.hg, H.hδ, H.hl, load_diag_k (H := H), load_diag_v (H := H), load_diag_c (H := H), h2]
  refine (congrArg k0_pay2 (tile_dqm ..)).trans ?_
  funext j
  have hr : (j 0).val < 512 := (j 0).isLt
  refine congrArg (fun x : ℝ => (x : EReal)) ?_
  dsimp only
  rw [← sum_tiles (i 1).val (fun s => dg (i 1).val q g k v l δ γ (j 0).val s * k s (j 1).val) hi
    fun s hs => by rw [dg_right (i 1).val q g k v l δ γ _ s hr hs, zero_mul], add_mul, ht]
  simp only [dg_diag]
  congr 2
  refine Finset.sum_congr rfl fun m hm => Finset.sum_congr rfl fun s _ => ?_
  rw [Finset.mem_range] at hm
  rw [dg_left (i 1).val q g k v l δ γ _ _ (by omega)]

theorem point_dcq :
    k0_pay3 (st_k0_t1 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 X3 X4 X8 G10 G11 G12 (k0_pay27, k0_pay28) (k0_t1_loop i).trips).1.2 (k0_pay35 (k0_pay21 v3) (k0_pay23 v7) (k0_pay24 v7 v10) (k0_pay25 v16) k0_pay26
        (k0_pay33 (arg3.view.readAt (Elt Ideal) (Rect.unit (s := S4096x128) (k0_off5 i) ![512, 128] (k0_off5_inb i)).toLoadRect X3))
        (arg4.view.readAt (Elt Ideal) (Rect.unit (s := S4096x128) (k0_off5 i) ![512, 128] (k0_off5_inb i)).toLoadRect X4)
        (arg8.view.readAt (Elt Ideal) (Rect.unit (s := S1x8x1x512) (k0_off6 i) ![1, 1, 1, 512] (k0_off6_inb i)).toLoadRect X8))
      = up2 512 128 fun r _ => ∑ s : Fin 4096, dg (i 1).val q g k v l δ γ r s := by
  obtain ⟨h1, -, -, -⟩ := loop_state c i arg2 harg2 arg3 harg3 arg4 harg4 arg5 harg5 arg6 harg6 arg7 harg7 arg8 harg8 arg9 harg9 arg10 harg10 arg11 harg11 arg12 harg12 arg13 harg13
      v3 v7 v10 v16 X3 X4 X8
    q g k v l δ γ H G10 G11 G12 a b e ha hb he _ le_rfl
  have ht := t1_trips i
  have hi : (i 1).val < 8 := (i 1).isLt
  have h2 := congrArg Prod.snd h1
  dsimp only at h2
  rw [H.hq, H.hg, H.hδ, H.hl, load_diag_k (H := H), load_diag_v (H := H), load_diag_c (H := H), h2, tile_dsm]
  refine (tile_rowsm _ fun r => ∑ j ∈ Finset.range (k0_t1_loop i).trips, ∑ s : Fin 512, dsU q g k v l δ γ r (512 * j + s)).trans ?_
  funext j
  have hr : (j 0).val < 512 := (j 0).isLt
  refine congrArg (fun x : ℝ => (x : EReal)) ?_
  dsimp only
  rw [← sum_tiles (i 1).val (fun s => dg (i 1).val q g k v l δ γ (j 0).val s) hi
    fun s hs => dg_right (i 1).val q g k v l δ γ _ s hr hs, ht]
  simp only [dg_diag]
  congr 1
  refine Finset.sum_congr rfl fun m hm => Finset.sum_congr rfl fun s _ => ?_
  rw [Finset.mem_range] at hm
  rw [dg_left (i 1).val q g k v l δ γ _ _ (by omega)]

end

end Cert.Fox
-- ==== Proof.Outs.lean ====
/- What one run of the body leaves in each output's block, on blocks of real numbers. -/
module

public import proofs.«01_k».proof.Proof.Point
public import proofs.«01_k».proof.Proof.Gen.KernelIdeal.Frame

@[expose] public section

set_option maxRecDepth 16384

noncomputable section

namespace Cert.Fox

open Cert.KernelIdeal Cert.KernelIdeal.Gen Idealize.ShloMosaic Idealize.ShloMosaic.TcCoe
open scoped BigOperators

/-- The queries as the body scales them. -/
def qs (q0 : ℕ → ℕ → ℝ) (r d : ℕ) : ℝ := q0 r d * ((Real.sqrt 128)⁻¹ * (Real.log 2)⁻¹)

/-- The row mean of the cotangent against the output. -/
def dl (g o : ℕ → ℕ → ℝ) (r : ℕ) : ℝ := ∑ d : Fin 128, g r d * o r d

theorem zero_dk : k0_pay18 (F := Ideal) = up2 4096 128 fun _ _ => 0 := by
  funext j
  pointwise [k0_pay18]
  rfl

theorem zero_dv : k0_pay19 (F := Ideal) = up2 4096 128 fun _ _ => 0 := by
  funext j
  pointwise [k0_pay19]
  rfl

theorem zero_dck : k0_pay20 (F := Ideal) = upc fun _ => 0 := by
  funext j
  pointwise [k0_pay20]
  rfl

variable (x0 : Vec Ideal S512x128 .f32) (x1 x2 : Vec Ideal S4096x128 .f32) (x3 x4 : Vec Ideal S512x128 .bf16)
  (x5 : Vec Ideal S512x128 .f32) (x6 : Vec Ideal S1x8x1x512 .f32)
  (q0 g o k v : ℕ → ℕ → ℝ) (l γ : ℕ → ℝ)

/-- The seven input blocks of a grid point are real: queries, keys, values, cotangent, output, log-sum-exp and gate. -/
structure Blocks : Prop where
  h0 : x0 = up2 512 128 q0
  h1 : x1 = up2 4096 128 k
  h2 : x2 = up2 4096 128 v
  h3 : x3 = up2 512 128 g
  h4 : x4 = up2 512 128 o
  h5 : x5 = up2 512 128 fun r _ => l r
  h6 : x6 = upc γ

variable (c : Dev nD) (i : grid0.Coords)
  (arg2 : Memref sig .tc .vmem S512x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .f32) (harg7 : arg7.IsWhole)
  (arg8 : Memref sig .tc .vmem S1x8x1x512 .f32) (harg8 : arg8.IsWhole)
  (arg9 : Memref sig .tc .vmem S512x128 .bf16) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S1x8x1x512 .f32) (harg12 : arg12.IsWhole)
  (arg13 : Memref sig .tc .vmem S512x128 .f32) (harg13 : arg13.IsWhole)

theorem t2_state (v3 v7 v10 v16 w X3 X4 X8 G10 G11 G12 init) : st_k0_t2 (F := Ideal) Variants.none c none i
      arg2 harg2 arg3 harg3 arg4 harg4 arg5 harg5 arg6 harg6 arg7 harg7 arg8 harg8 arg9 harg9 arg10 harg10 arg11 harg11 arg12 harg12 arg13 harg13
      v3 v7 v10 v16 w X3 X4 X8 G10 G11 G12 init 0 = (init, [], [], []) := rfl

variable (B : Blocks x0 x1 x2 x3 x4 x5 x6 q0 g o k v l γ)

include B

theorem loaded_of : Loaded arg3 arg4 arg8
    (arg2.view.readAt (Elt Ideal) (Rect.unit (s := S512x128) ![0, 0] S512x128.size inb_S512x128_S512x128_0_0).toLoadRect (harg2.unread x0))
    (arg5.view.readAt (Elt Ideal) (Rect.unit (s := S512x128) ![0, 0] S512x128.size inb_S512x128_S512x128_0_0).toLoadRect (harg5.unread x3))
    (arg6.view.readAt (Elt Ideal) (Rect.unit (s := S512x128) ![0, 0] S512x128.size inb_S512x128_S512x128_0_0).toLoadRect (harg6.unread x4))
    (arg7.view.readAt (Elt Ideal) (Rect.unit (s := S512x128) ![0, 0] S512x128.size inb_S512x128_S512x128_0_0).toLoadRect (harg7.unread x5))
    (harg3.unread x1) (harg4.unread x2) (harg8.unread x6) (qs q0) g k v l (dl g o) γ where
  hq := by rw [View.readAt_full, harg2.read_unread, B.h0]; exact tile_q q0
  hg := by rw [View.readAt_full, harg5.read_unread, B.h3]; exact tile_do g
  hδ := by rw [View.readAt_full, View.readAt_full, harg5.read_unread, harg6.read_unread, B.h3, B.h4]; exact tile_delta g o
  hl := by rw [View.readAt_full, harg7.read_unread, B.h5]; exact tile_lse l
  hk := (harg3.read_unread x1).trans B.h1
  hv := (harg4.read_unread x2).trans B.h2
  hc := (harg8.read_unread x6).trans B.h6

section

variable (hc0 : cond0_0 i)

theorem outA_8 : out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = up2 4096 128 fun s d => 0 + (∑ r : Fin 512, dg (i 1).val (qs q0) g k v l (dl g o) γ r s * qs q0 r d) * Real.log 2 := by
  have ha : arg10.view.read (Elt Ideal) (arg10.view.writes (Elt Ideal) arg10.view.junk (kernelRun0_A.sl.H8_1 (F := Ideal))) = up2 4096 128 fun _ _ => 0 := by
    unfold kernelRun0_A.sl.H8_1
    exact (View.read_writes_full ..).trans zero_dk
  have hb : arg11.view.read (Elt Ideal) (arg11.view.writes (Elt Ideal) arg11.view.junk (kernelRun0_A.sl.H9_1 (F := Ideal))) = up2 4096 128 fun _ _ => 0 := by
    unfold kernelRun0_A.sl.H9_1
    exact (View.read_writes_full ..).trans zero_dv
  have he : arg12.view.read (Elt Ideal) (arg12.view.writes (Elt Ideal) arg12.view.junk (kernelRun0_A.sl.H10_1 (F := Ideal))) = upc fun _ => 0 := by
    unfold kernelRun0_A.sl.H10_1
    exact (View.read_writes_full ..).trans zero_dck
  have t2 : Scf.trips (k0_t2_loop i).lb (k0_t2_loop i).ub (k0_t2_loop i).st = 0 := t2_trips i
  have hp := (point_dk c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (arg10.view.writes (Elt Ideal) arg10.view.junk (kernelRun0_A.sl.H8_1 (F := Ideal))) (arg11.view.writes (Elt Ideal) arg11.view.junk (kernelRun0_A.sl.H9_1 (F := Ideal))) (arg12.view.writes (Elt Ideal) arg12.view.junk (kernelRun0_A.sl.H10_1 (F := Ideal))) (fun _ _ => 0) (fun _ _ => 0) (fun _ => 0) ha hb he)
  unfold out0_A_8
  refine (View.read_writes_of_cover _ _ arg10.view arg10.view.junk _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6)).trans ?_
  unfold kernelRun0_A
  dsimp only
  unfold kernelRun0_A.sl.r kernelRun0_A.sl.r_1 kernelRun0_A.sl.r_2 kernelRun0_A.sl.r_3 kernelRun0_A.sl.r_6 kernelRun0_A.sl.v59
  dsimp only at t2 ⊢
  rw [t2]
  simp only [t2_state, List.nil_append, View.writes_append, View.writes_nil, View.writes_cons]
  simp only [View.writes_cons, Scf.Loop.trips] at hp
  exact hp

theorem outA_9 : out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = up2 4096 128 fun s d => 0 + ∑ r : Fin 512, pg (i 1).val (qs q0) k l γ r s * g r d := by
  have ha : arg10.view.read (Elt Ideal) (arg10.view.writes (Elt Ideal) arg10.view.junk (kernelRun0_A.sl.H8_1 (F := Ideal))) = up2 4096 128 fun _ _ => 0 := by
    unfold kernelRun0_A.sl.H8_1
    exact (View.read_writes_full ..).trans zero_dk
  have hb : arg11.view.read (Elt Ideal) (arg11.view.writes (Elt Ideal) arg11.view.junk (kernelRun0_A.sl.H9_1 (F := Ideal))) = up2 4096 128 fun _ _ => 0 := by
    unfold kernelRun0_A.sl.H9_1
    exact (View.read_writes_full ..).trans zero_dv
  have he : arg12.view.read (Elt Ideal) (arg12.view.writes (Elt Ideal) arg12.view.junk (kernelRun0_A.sl.H10_1 (F := Ideal))) = upc fun _ => 0 := by
    unfold kernelRun0_A.sl.H10_1
    exact (View.read_writes_full ..).trans zero_dck
  have t2 : Scf.trips (k0_t2_loop i).lb (k0_t2_loop i).ub (k0_t2_loop i).st = 0 := t2_trips i
  have hp := (point_dv c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (arg10.view.writes (Elt Ideal) arg10.view.junk (kernelRun0_A.sl.H8_1 (F := Ideal))) (arg11.view.writes (Elt Ideal) arg11.view.junk (kernelRun0_A.sl.H9_1 (F := Ideal))) (arg12.view.writes (Elt Ideal) arg12.view.junk (kernelRun0_A.sl.H10_1 (F := Ideal))) (fun _ _ => 0) (fun _ _ => 0) (fun _ => 0) ha hb he)
  unfold out0_A_9
  refine (View.read_writes_of_cover _ _ arg11.view arg11.view.junk _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6)).trans ?_
  unfold kernelRun0_A
  dsimp only
  unfold kernelRun0_A.sl.r kernelRun0_A.sl.r_1 kernelRun0_A.sl.r_3 kernelRun0_A.sl.r_6 kernelRun0_A.sl.v68
  dsimp only at t2 ⊢
  rw [t2]
  simp only [t2_state, List.nil_append, View.writes_append, View.writes_nil, View.writes_cons]
  simp only [View.writes_cons, Scf.Loop.trips] at hp
  exact hp

theorem outA_10 : out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = upc fun s => 0 - ∑ r : Fin 512, dg (i 1).val (qs q0) g k v l (dl g o) γ r s := by
  have ha : arg10.view.read (Elt Ideal) (arg10.view.writes (Elt Ideal) arg10.view.junk (kernelRun0_A.sl.H8_1 (F := Ideal))) = up2 4096 128 fun _ _ => 0 := by
    unfold kernelRun0_A.sl.H8_1
    exact (View.read_writes_full ..).trans zero_dk
  have hb : arg11.view.read (Elt Ideal) (arg11.view.writes (Elt Ideal) arg11.view.junk (kernelRun0_A.sl.H9_1 (F := Ideal))) = up2 4096 128 fun _ _ => 0 := by
    unfold kernelRun0_A.sl.H9_1
    exact (View.read_writes_full ..).trans zero_dv
  have he : arg12.view.read (Elt Ideal) (arg12.view.writes (Elt Ideal) arg12.view.junk (kernelRun0_A.sl.H10_1 (F := Ideal))) = upc fun _ => 0 := by
    unfold kernelRun0_A.sl.H10_1
    exact (View.read_writes_full ..).trans zero_dck
  have t2 : Scf.trips (k0_t2_loop i).lb (k0_t2_loop i).ub (k0_t2_loop i).st = 0 := t2_trips i
  have hp := (point_dck c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (arg10.view.writes (Elt Ideal) arg10.view.junk (kernelRun0_A.sl.H8_1 (F := Ideal))) (arg11.view.writes (Elt Ideal) arg11.view.junk (kernelRun0_A.sl.H9_1 (F := Ideal))) (arg12.view.writes (Elt Ideal) arg12.view.junk (kernelRun0_A.sl.H10_1 (F := Ideal))) (fun _ _ => 0) (fun _ _ => 0) (fun _ => 0) ha hb he)
  unfold out0_A_10
  refine (View.read_writes_of_cover _ _ arg12.view arg12.view.junk _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6)).trans ?_
  unfold kernelRun0_A
  dsimp only
  unfold kernelRun0_A.sl.r_7 kernelRun0_A.sl.r kernelRun0_A.sl.r_1 kernelRun0_A.sl.r_2 kernelRun0_A.sl.r_3 kernelRun0_A.sl.r_6 kernelRun0_A.sl.v76
  dsimp only at t2 ⊢
  rw [t2]
  simp only [t2_state, List.nil_append, View.writes_append, View.writes_nil, View.writes_cons]
  simp only [View.writes_cons, Scf.Loop.trips] at hp
  exact hp

theorem outA_7 : out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = up2 512 128 fun r d => (∑ s : Fin 4096, dg (i 1).val (qs q0) g k v l (dl g o) γ r s * k s d) * (Real.sqrt 128)⁻¹ := by
  have ha : arg10.view.read (Elt Ideal) (arg10.view.writes (Elt Ideal) arg10.view.junk (kernelRun0_A.sl.H8_1 (F := Ideal))) = up2 4096 128 fun _ _ => 0 := by
    unfold kernelRun0_A.sl.H8_1
    exact (View.read_writes_full ..).trans zero_dk
  have hb : arg11.view.read (Elt Ideal) (arg11.view.writes (Elt Ideal) arg11.view.junk (kernelRun0_A.sl.H9_1 (F := Ideal))) = up2 4096 128 fun _ _ => 0 := by
    unfold kernelRun0_A.sl.H9_1
    exact (View.read_writes_full ..).trans zero_dv
  have he : arg12.view.read (Elt Ideal) (arg12.view.writes (Elt Ideal) arg12.view.junk (kernelRun0_A.sl.H10_1 (F := Ideal))) = upc fun _ => 0 := by
    unfold kernelRun0_A.sl.H10_1
    exact (View.read_writes_full ..).trans zero_dck
  have t2 : Scf.trips (k0_t2_loop i).lb (k0_t2_loop i).ub (k0_t2_loop i).st = 0 := t2_trips i
  have hp := (point_dq c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (arg10.view.writes (Elt Ideal) arg10.view.junk (kernelRun0_A.sl.H8_1 (F := Ideal))) (arg11.view.writes (Elt Ideal) arg11.view.junk (kernelRun0_A.sl.H9_1 (F := Ideal))) (arg12.view.writes (Elt Ideal) arg12.view.junk (kernelRun0_A.sl.H10_1 (F := Ideal))) (fun _ _ => 0) (fun _ _ => 0) (fun _ => 0) ha hb he)
  unfold out0_A_7
  unfold kernelRun0_A
  dsimp only
  refine (View.read_writes_full ..).trans ?_
  unfold kernelRun0_A.sl.r_8 kernelRun0_A.sl.r_4 kernelRun0_A.sl.r kernelRun0_A.sl.r_1 kernelRun0_A.sl.r_2 kernelRun0_A.sl.r_3 kernelRun0_A.sl.r_6
  dsimp only at t2 ⊢
  rw [t2]
  exact hp

theorem outA_11 : out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = up2 512 128 fun r _ => ∑ s : Fin 4096, dg (i 1).val (qs q0) g k v l (dl g o) γ r s := by
  have ha : arg10.view.read (Elt Ideal) (arg10.view.writes (Elt Ideal) arg10.view.junk (kernelRun0_A.sl.H8_1 (F := Ideal))) = up2 4096 128 fun _ _ => 0 := by
    unfold kernelRun0_A.sl.H8_1
    exact (View.read_writes_full ..).trans zero_dk
  have hb : arg11.view.read (Elt Ideal) (arg11.view.writes (Elt Ideal) arg11.view.junk (kernelRun0_A.sl.H9_1 (F := Ideal))) = up2 4096 128 fun _ _ => 0 := by
    unfold kernelRun0_A.sl.H9_1
    exact (View.read_writes_full ..).trans zero_dv
  have he : arg12.view.read (Elt Ideal) (arg12.view.writes (Elt Ideal) arg12.view.junk (kernelRun0_A.sl.H10_1 (F := Ideal))) = upc fun _ => 0 := by
    unfold kernelRun0_A.sl.H10_1
    exact (View.read_writes_full ..).trans zero_dck
  have t2 : Scf.trips (k0_t2_loop i).lb (k0_t2_loop i).ub (k0_t2_loop i).st = 0 := t2_trips i
  have hp := (point_dcq c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (arg10.view.writes (Elt Ideal) arg10.view.junk (kernelRun0_A.sl.H8_1 (F := Ideal))) (arg11.view.writes (Elt Ideal) arg11.view.junk (kernelRun0_A.sl.H9_1 (F := Ideal))) (arg12.view.writes (Elt Ideal) arg12.view.junk (kernelRun0_A.sl.H10_1 (F := Ideal))) (fun _ _ => 0) (fun _ _ => 0) (fun _ => 0) ha hb he)
  unfold out0_A_11
  unfold kernelRun0_A
  dsimp only
  refine (View.read_writes_full ..).trans ?_
  unfold kernelRun0_A.sl.r_5 kernelRun0_A.sl.r_7 kernelRun0_A.sl.r kernelRun0_A.sl.r_1 kernelRun0_A.sl.r_2 kernelRun0_A.sl.r_3 kernelRun0_A.sl.r_6
  dsimp only at t2 ⊢
  rw [t2]
  exact hp

end

section

variable (hc0 : ¬cond0_0 i)
  (xo8 xo9 : Vec Ideal S4096x128 .f32) (xo10 : Vec Ideal S1x8x1x512 .f32) (a b : ℕ → ℕ → ℝ) (e : ℕ → ℝ)
  (h8 : xo8 = up2 4096 128 a) (h9 : xo9 = up2 4096 128 b) (h10 : xo10 = upc e)

include h8 h9 h10

theorem outB_8 : out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10
    = up2 4096 128 fun s d => a s d + (∑ r : Fin 512, dg (i 1).val (qs q0) g k v l (dl g o) γ r s * qs q0 r d) * Real.log 2 := by
  have ha : arg10.view.read (Elt Ideal) (harg10.unread xo8) = up2 4096 128 a := (harg10.read_unread xo8).trans h8
  have hb : arg11.view.read (Elt Ideal) (harg11.unread xo9) = up2 4096 128 b := (harg11.read_unread xo9).trans h9
  have he : arg12.view.read (Elt Ideal) (harg12.unread xo10) = upc e := (harg12.read_unread xo10).trans h10
  have t2 : Scf.trips (k0_t2_loop i).lb (k0_t2_loop i).ub (k0_t2_loop i).st = 0 := t2_trips i
  have hp := (point_dk c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (harg10.unread xo8) (harg11.unread xo9) (harg12.unread xo10) a b e ha hb he)
  unfold out0_B_8
  unfold kernelRun0_B
  dsimp only
  unfold kernelRun0_B.sl.r kernelRun0_B.sl.r_1 kernelRun0_B.sl.r_2 kernelRun0_B.sl.r_3 kernelRun0_B.sl.r_6 kernelRun0_B.sl.v59
  dsimp only at t2 ⊢
  rw [t2]
  exact hp

theorem outB_9 : out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10
    = up2 4096 128 fun s d => b s d + ∑ r : Fin 512, pg (i 1).val (qs q0) k l γ r s * g r d := by
  have ha : arg10.view.read (Elt Ideal) (harg10.unread xo8) = up2 4096 128 a := (harg10.read_unread xo8).trans h8
  have hb : arg11.view.read (Elt Ideal) (harg11.unread xo9) = up2 4096 128 b := (harg11.read_unread xo9).trans h9
  have he : arg12.view.read (Elt Ideal) (harg12.unread xo10) = upc e := (harg12.read_unread xo10).trans h10
  have t2 : Scf.trips (k0_t2_loop i).lb (k0_t2_loop i).ub (k0_t2_loop i).st = 0 := t2_trips i
  have hp := (point_dv c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (harg10.unread xo8) (harg11.unread xo9) (harg12.unread xo10) a b e ha hb he)
  unfold out0_B_9
  unfold kernelRun0_B
  dsimp only
  unfold kernelRun0_B.sl.r kernelRun0_B.sl.r_1 kernelRun0_B.sl.r_3 kernelRun0_B.sl.r_6 kernelRun0_B.sl.v68
  dsimp only at t2 ⊢
  rw [t2]
  exact hp

theorem outB_10 : out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10
    = upc fun s => e s - ∑ r : Fin 512, dg (i 1).val (qs q0) g k v l (dl g o) γ r s := by
  have ha : arg10.view.read (Elt Ideal) (harg10.unread xo8) = up2 4096 128 a := (harg10.read_unread xo8).trans h8
  have hb : arg11.view.read (Elt Ideal) (harg11.unread xo9) = up2 4096 128 b := (harg11.read_unread xo9).trans h9
  have he : arg12.view.read (Elt Ideal) (harg12.unread xo10) = upc e := (harg12.read_unread xo10).trans h10
  have t2 : Scf.trips (k0_t2_loop i).lb (k0_t2_loop i).ub (k0_t2_loop i).st = 0 := t2_trips i
  have hp := (point_dck c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (harg10.unread xo8) (harg11.unread xo9) (harg12.unread xo10) a b e ha hb he)
  unfold out0_B_10
  unfold kernelRun0_B
  dsimp only
  unfold kernelRun0_B.sl.r_7 kernelRun0_B.sl.r kernelRun0_B.sl.r_1 kernelRun0_B.sl.r_2 kernelRun0_B.sl.r_3 kernelRun0_B.sl.r_6 kernelRun0_B.sl.v76
  dsimp only at t2 ⊢
  rw [t2]
  exact hp

theorem outB_7 : out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10
    = up2 512 128 fun r d => (∑ s : Fin 4096, dg (i 1).val (qs q0) g k v l (dl g o) γ r s * k s d) * (Real.sqrt 128)⁻¹ := by
  have ha : arg10.view.read (Elt Ideal) (harg10.unread xo8) = up2 4096 128 a := (harg10.read_unread xo8).trans h8
  have hb : arg11.view.read (Elt Ideal) (harg11.unread xo9) = up2 4096 128 b := (harg11.read_unread xo9).trans h9
  have he : arg12.view.read (Elt Ideal) (harg12.unread xo10) = upc e := (harg12.read_unread xo10).trans h10
  have t2 : Scf.trips (k0_t2_loop i).lb (k0_t2_loop i).ub (k0_t2_loop i).st = 0 := t2_trips i
  have hp := (point_dq c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (harg10.unread xo8) (harg11.unread xo9) (harg12.unread xo10) a b e ha hb he)
  unfold out0_B_7
  unfold kernelRun0_B
  dsimp only
  refine (View.read_writes_full ..).trans ?_
  unfold kernelRun0_B.sl.r_8 kernelRun0_B.sl.r_4 kernelRun0_B.sl.r kernelRun0_B.sl.r_1 kernelRun0_B.sl.r_2 kernelRun0_B.sl.r_3 kernelRun0_B.sl.r_6
  dsimp only at t2 ⊢
  rw [t2]
  exact hp

theorem outB_11 : out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10
    = up2 512 128 fun r _ => ∑ s : Fin 4096, dg (i 1).val (qs q0) g k v l (dl g o) γ r s := by
  have ha : arg10.view.read (Elt Ideal) (harg10.unread xo8) = up2 4096 128 a := (harg10.read_unread xo8).trans h8
  have hb : arg11.view.read (Elt Ideal) (harg11.unread xo9) = up2 4096 128 b := (harg11.read_unread xo9).trans h9
  have he : arg12.view.read (Elt Ideal) (harg12.unread xo10) = upc e := (harg12.read_unread xo10).trans h10
  have t2 : Scf.trips (k0_t2_loop i).lb (k0_t2_loop i).ub (k0_t2_loop i).st = 0 := t2_trips i
  have hp := (point_dcq c i arg2 harg2 arg3 harg3 arg4 harg4 arg5 harg5 arg6 harg6 arg7 harg7 arg8 harg8 arg9 harg9 arg10 harg10 arg11 harg11 arg12 harg12 arg13 harg13 _ _ _ _ _ _ _
    (qs q0) g k v l (dl g o) γ (loaded_of (harg2 := harg2) (harg3 := harg3) (harg4 := harg4) (harg5 := harg5) (harg6 := harg6) (harg7 := harg7) (harg8 := harg8) (B := B) ..) (harg10.unread xo8) (harg11.unread xo9) (harg12.unread xo10) a b e ha hb he)
  unfold out0_B_11
  unfold kernelRun0_B
  dsimp only
  refine (View.read_writes_full ..).trans ?_
  unfold kernelRun0_B.sl.r_5 kernelRun0_B.sl.r_7 kernelRun0_B.sl.r kernelRun0_B.sl.r_1 kernelRun0_B.sl.r_2 kernelRun0_B.sl.r_3 kernelRun0_B.sl.r_6
  dsimp only at t2 ⊢
  rw [t2]
  exact hp

end

end Cert.Fox
-- ==== Proof.Head.lean ====
/- The blocks of each head followed over its eight grid points: the accumulated gradients of keys, values and gate, and the
   five result arrays as functions of the arrays that enter the call. -/
module

public import proofs.«01_k».proof.Proof.Outs
public import proofs.«01_k».proof.Proof.Gen.KernelIdeal.Value
public import Idealize.ShloMosaic.Lib.Pipeline.ValueKit

@[expose] public section

set_option maxRecDepth 16384
set_option maxHeartbeats 1600000

noncomputable section

namespace Cert.Fox

open Cert.KernelIdeal Cert.KernelIdeal.Gen Idealize.ShloMosaic Idealize.ShloMosaic.TcCoe
open scoped BigOperators

/-- Head `h`'s columns of an array, from column `n` on. -/
def hd (f : ℕ → ℕ → ℝ) (n h t d : ℕ) : ℝ := f t (n + 128 * h + d)

/-- The sum over a block of 512 rows extends the sum over the rows before it. -/
theorem sum_rows (f : ℕ → ℝ) (n : ℕ) :
    ∑ t ∈ Finset.range (512 * (n + 1)), f t = ∑ t ∈ Finset.range (512 * n), f t + ∑ r : Fin 512, f (512 * n + r.val) := by
  rw [Nat.mul_succ, Finset.sum_range_add, Fin.sum_univ_eq_sum_range (fun r => f (512 * n + r)) 512]

theorem pg_rows (n : ℕ) (q k : ℕ → ℕ → ℝ) (l γ : ℕ → ℝ) (r s : ℕ) :
    pg n (qs fun r d => q (512 * n + r) d) k (fun r => l (512 * n + r)) γ r s = pg 0 (qs q) k l γ (512 * n + r) s := by
  unfold pg ex qs
  simp only [Nat.mul_zero, Nat.zero_add]

theorem dg_rows (n : ℕ) (q g o k v : ℕ → ℕ → ℝ) (l γ : ℕ → ℝ) (r s : ℕ) :
    dg n (qs fun r d => q (512 * n + r) d) (fun r d => g (512 * n + r) d) k v (fun r => l (512 * n + r))
      (dl (fun r d => g (512 * n + r) d) (fun r d => o (512 * n + r) d)) γ r s
    = dg 0 (qs q) g k v l (dl g o) γ (512 * n + r) s := by
  unfold dg dsOf
  rw [pg_rows]
  rfl

variable (m : (ℓ : Loc nD τ sig) → Buf (Elt Ideal) ℓ) (c : Dev nD) (P Dc O L Γ : ℕ → ℕ → ℝ)

/-- The arrays that enter the call are real: projection, cotangent, output, log-sum-exp by head and row, gate by head and
    column. -/
structure Entry : Prop where
  e0 : V m c main_arg0 = up2 4096 5760 P
  e2 : V m c main_arg2 = up2 4096 2048 Dc
  eo : V m c main_v33 = up2 4096 1024 O
  el : V m c main_v42 = up2 4096 1024 fun t x => L (x / 128) t
  ec : V m c main_v47 = fun j : S8x8x1x512.Idx => ((Γ (j 0).val (512 * (j 1).val + (j 3).val) : ℝ) : EReal)

/-- The probability of row `t` at column `s` of head `h`, as the call forms it. -/
def prob (h t s : ℕ) : ℝ := pg 0 (qs (hd P 2560 h)) (hd P 3584 h) (L h) (Γ h) t s

/-- The gradient of that entry's score. -/
def dscore (h t s : ℕ) : ℝ :=
  dg 0 (qs (hd P 2560 h)) (hd Dc 1024 h) (hd P 3584 h) (hd P 4608 h) (L h) (dl (hd Dc 1024 h) (hd O 0 h)) (Γ h) t s

theorem coord0 : ∀ t : Fin cfg0.N, (grid0.coords t 0).val = t.val / 8 := (by decide +kernel : ∀ t : Fin grid0.N, _)
theorem coord1 : ∀ t : Fin cfg0.N, (grid0.coords t 1).val = t.val % 8 := (by decide +kernel : ∀ t : Fin grid0.N, _)

theorem idx0 : ∀ t : Fin cfg0.N, win0_0.index t = ![t.val % 8, 20 + t.val / 8] := (by decide +kernel : ∀ t : Fin grid0.N, _)
theorem idx1 : ∀ t : Fin cfg0.N, win0_1.index t = ![0, 28 + t.val / 8] := (by decide +kernel : ∀ t : Fin grid0.N, _)
theorem idx2 : ∀ t : Fin cfg0.N, win0_2.index t = ![0, 36 + t.val / 8] := (by decide +kernel : ∀ t : Fin grid0.N, _)
theorem idx3 : ∀ t : Fin cfg0.N, win0_3.index t = ![t.val % 8, 8 + t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![t.val / 8, 0, 0, 0] := (by decide +kernel : ∀ t : Fin grid0.N, _)
theorem idx7 : ∀ t : Fin cfg0.N, win0_7.index t = ![t.val % 8, t.val / 8] := (by decide +kernel : ∀ t : Fin grid0.N, _)
theorem idx8 : ∀ t : Fin cfg0.N, win0_8.index t = ![0, t.val / 8] := (by decide +kernel : ∀ t : Fin grid0.N, _)
theorem idx9 : ∀ t : Fin cfg0.N, win0_9.index t = ![0, t.val / 8] := (by decide +kernel : ∀ t : Fin grid0.N, _)
theorem idx10 : ∀ t : Fin cfg0.N, win0_10.index t = ![t.val / 8, 0, 0, 0] := (by decide +kernel : ∀ t : Fin grid0.N, _)
theorem idx11 : ∀ t : Fin cfg0.N, win0_11.index t = ![t.val % 8, t.val / 8] := (by decide +kernel : ∀ t : Fin grid0.N, _)

variable (E : Entry m c P Dc O L Γ)

include E

/-- The seven input blocks of grid point `t`. -/
theorem blocks (t : Fin cfg0.N) : Blocks (iblk m c 0 t) (iblk m c 1 t) (iblk m c 2 t) (iblk m c 3 t) (iblk m c 4 t) (iblk m c 5 t) (iblk m c 6 t)
    (fun r d => hd P 2560 (t.val / 8) (512 * (t.val % 8) + r) d) (fun r d => hd Dc 1024 (t.val / 8) (512 * (t.val % 8) + r) d)
    (fun r d => hd O 0 (t.val / 8) (512 * (t.val % 8) + r) d) (hd P 3584 (t.val / 8)) (hd P 4608 (t.val / 8))
    (fun r => L (t.val / 8) (512 * (t.val % 8) + r)) (Γ (t.val / 8)) where
  h0 := by
    funext y
    idx_bounds y
    blk_simp [iblk]
    rw [E.e0]
    simp only [up2_at, upc_at]
    blk_simp [idx0]
    exact congrArg (fun x : ℝ => (x : EReal)) (by unfold hd; congr 1 <;> omega)
  h1 := by
    funext y
    idx_bounds y
    blk_simp [iblk]
    rw [E.e0]
    simp only [up2_at, upc_at]
    blk_simp [idx1]
    exact congrArg (fun x : ℝ => (x : EReal)) (by unfold hd; congr 1 <;> omega)
  h2 := by
    funext y
    idx_bounds y
    blk_simp [iblk]
    rw [E.e0]
    simp only [up2_at, upc_at]
    blk_simp [idx2]
    exact congrArg (fun x : ℝ => (x : EReal)) (by unfold hd; congr 1 <;> omega)
  h3 := by
    funext y
    idx_bounds y
    blk_simp [iblk]
    rw [E.e2]
    simp only [up2_at, upc_at]
    blk_simp [idx3]
    exact congrArg (fun x : ℝ => (x : EReal)) (by unfold hd; congr 1 <;> omega)
  h4 := by
    funext y
    idx_bounds y
    blk_simp [iblk]
    rw [E.eo]
    simp only [up2_at, upc_at]
    blk_simp [idx4]
    exact congrArg (fun x : ℝ => (x : EReal)) (by unfold hd; congr 1 <;> omega)
  h5 := by
    funext y
    idx_bounds y
    blk_simp [iblk]
    rw [E.el]
    simp only [up2_at, upc_at]
    blk_simp [idx5]
    exact congrArg (fun x : ℝ => (x : EReal)) (by congr 1 <;> omega)
  h6 := by
    funext y
    idx_bounds y
    blk_simp [iblk]
    rw [E.ec]
    simp only [up2_at, upc_at]
    blk_simp [idx6]

/-- After grid point `n` the three accumulated blocks hold the sums over the rows seen so far. -/
structure State (n : ℕ) (hn : n < cfg0.N) : Prop where
  s8 : (outsAt0 m c n hn).2.1 = up2 4096 128 fun s d => (∑ t ∈ Finset.range (512 * (n % 8 + 1)), dscore P Dc O L Γ (n / 8) t s * qs (hd P 2560 (n / 8)) t d) * Real.log 2
  s9 : (outsAt0 m c n hn).2.2.1 = up2 4096 128 fun s d => ∑ t ∈ Finset.range (512 * (n % 8 + 1)), prob P L Γ (n / 8) t s * hd Dc 1024 (n / 8) t d
  s10 : (outsAt0 m c n hn).2.2.2.1 = upc fun s => -∑ t ∈ Finset.range (512 * (n % 8 + 1)), dscore P Dc O L Γ (n / 8) t s

theorem state_first (t : Fin cfg0.N) (h0 : t.val % 8 = 0) : State m c P Dc O L Γ t.val t.isLt := by
  have z : ∀ f : ℕ → ℝ, ∑ t ∈ Finset.range (512 * 0), f t = 0 := fun f => rfl
  constructor
  · rw [outsAt0_A m c t h0]
    dsimp only
    refine (outA_8 (hc0 := (hcond0_0 t).mpr h0) (B := blocks m c P Dc O L Γ E t) ..).trans ?_
    refine congrArg (up2 4096 128) (funext fun s => funext fun d => ?_)
    simp only [coord1 t, dg_rows, pg_rows]
    rw [sum_rows, h0, z]
    rw [add_mul]
    rw [zero_mul]
    rfl
  · rw [outsAt0_A m c t h0]
    dsimp only
    refine (outA_9 (hc0 := (hcond0_0 t).mpr h0) (B := blocks m c P Dc O L Γ E t) ..).trans ?_
    refine congrArg (up2 4096 128) (funext fun s => funext fun d => ?_)
    simp only [coord1 t, dg_rows, pg_rows]
    rw [sum_rows, h0, z]
    rfl
  · rw [outsAt0_A m c t h0]
    dsimp only
    refine (outA_10 (hc0 := (hcond0_0 t).mpr h0) (B := blocks m c P Dc O L Γ E t) ..).trans ?_
    refine congrArg upc (funext fun s => ?_)
    simp only [coord1 t, dg_rows, pg_rows]
    rw [sum_rows, h0, z]
    rw [neg_add, sub_eq_add_neg]
    rw [neg_zero]
    rfl

theorem state_next (t : Fin cfg0.N) (h0 : ¬t.val % 8 = 0) (S : State m c P Dc O L Γ (t.val - 1) (Nat.lt_of_le_of_lt (Nat.sub_le _ _) t.isLt)) :
    State m c P Dc O L Γ t.val t.isLt := by
  have e1 : (t.val - 1) / 8 = t.val / 8 := by omega
  have e2 : (t.val - 1) % 8 + 1 = t.val % 8 := by omega
  constructor
  · rw [outsAt0_B m c t h0]
    dsimp only
    refine (outB_8 (hc0 := fun h => h0 ((hcond0_0 t).mp h)) (B := blocks m c P Dc O L Γ E t) (h8 := S.s8) (h9 := S.s9) (h10 := S.s10) ..).trans ?_
    refine congrArg (up2 4096 128) (funext fun s => funext fun d => ?_)
    simp only [coord1 t, dg_rows, pg_rows]
    rw [e1, e2, sum_rows (n := t.val % 8)]
    rw [add_mul]
    rfl
  · rw [outsAt0_B m c t h0]
    dsimp only
    refine (outB_9 (hc0 := fun h => h0 ((hcond0_0 t).mp h)) (B := blocks m c P Dc O L Γ E t) (h8 := S.s8) (h9 := S.s9) (h10 := S.s10) ..).trans ?_
    refine congrArg (up2 4096 128) (funext fun s => funext fun d => ?_)
    simp only [coord1 t, dg_rows, pg_rows]
    rw [e1, e2, sum_rows (n := t.val % 8)]
    rfl
  · rw [outsAt0_B m c t h0]
    dsimp only
    refine (outB_10 (hc0 := fun h => h0 ((hcond0_0 t).mp h)) (B := blocks m c P Dc O L Γ E t) (h8 := S.s8) (h9 := S.s9) (h10 := S.s10) ..).trans ?_
    refine congrArg upc (funext fun s => ?_)
    simp only [coord1 t, dg_rows, pg_rows]
    rw [e1, e2, sum_rows (n := t.val % 8)]
    rw [neg_add, sub_eq_add_neg]
    rfl

theorem state : ∀ (n : ℕ) (hn : n < cfg0.N), State m c P Dc O L Γ n hn
  | 0, hn => state_first m c P Dc O L Γ E ⟨0, hn⟩ rfl
  | n + 1, hn => by
    by_cases h0 : (n + 1) % 8 = 0
    · exact state_first m c P Dc O L Γ E ⟨n + 1, hn⟩ h0
    · exact state_next m c P Dc O L Γ E ⟨n + 1, hn⟩ h0 (state n (Nat.lt_of_succ_lt hn))

theorem rows7 (t : Fin cfg0.N) : (outsAt0 m c t.val t.isLt).1 = up2 512 128 fun r d => (∑ s : Fin 4096, dscore P Dc O L Γ (t.val / 8) (512 * (t.val % 8) + r) s * hd P 3584 (t.val / 8) s d) * (Real.sqrt 128)⁻¹ := by
  by_cases h0 : t.val % 8 = 0
  · rw [outsAt0_A m c t h0]
    dsimp only
    refine (outA_7 (hc0 := (hcond0_0 t).mpr h0) (B := blocks m c P Dc O L Γ E t) ..).trans ?_
    refine congrArg (up2 512 128) (funext fun r => funext fun d => ?_)
    simp only [coord1 t, dg_rows, pg_rows]
    rfl
  · have S := state m c P Dc O L Γ E (t.val - 1) (Nat.lt_of_le_of_lt (Nat.sub_le _ _) t.isLt)
    rw [outsAt0_B m c t h0]
    dsimp only
    refine (outB_7 (hc0 := fun h => h0 ((hcond0_0 t).mp h)) (B := blocks m c P Dc O L Γ E t) (h8 := S.s8) (h9 := S.s9) (h10 := S.s10) ..).trans ?_
    refine congrArg (up2 512 128) (funext fun r => funext fun d => ?_)
    simp only [coord1 t, dg_rows, pg_rows]
    rfl

theorem rows11 (t : Fin cfg0.N) : (outsAt0 m c t.val t.isLt).2.2.2.2 = up2 512 128 fun r _ => ∑ s : Fin 4096, dscore P Dc O L Γ (t.val / 8) (512 * (t.val % 8) + r) s := by
  by_cases h0 : t.val % 8 = 0
  · rw [outsAt0_A m c t h0]
    dsimp only
    refine (outA_11 (hc0 := (hcond0_0 t).mpr h0) (B := blocks m c P Dc O L Γ E t) ..).trans ?_
    refine congrArg (up2 512 128) (funext fun r => funext fun _ => ?_)
    simp only [coord1 t, dg_rows, pg_rows]
    rfl
  · have S := state m c P Dc O L Γ E (t.val - 1) (Nat.lt_of_le_of_lt (Nat.sub_le _ _) t.isLt)
    rw [outsAt0_B m c t h0]
    dsimp only
    refine (outB_11 (hc0 := fun h => h0 ((hcond0_0 t).mp h)) (B := blocks m c P Dc O L Γ E t) (h8 := S.s8) (h9 := S.s9) (h10 := S.s10) ..).trans ?_
    refine congrArg (up2 512 128) (funext fun r => funext fun _ => ?_)
    simp only [coord1 t, dg_rows, pg_rows]
    rfl

end Cert.Fox

end
-- ==== Proof.Result.lean ====
/- The five result arrays of the call as functions of the arrays that enter it. -/
module

public import proofs.«01_k».proof.Proof.Head

@[expose] public section

set_option maxRecDepth 16384
set_option maxHeartbeats 1600000

noncomputable section

namespace Cert.Fox

open Cert.KernelIdeal Cert.KernelIdeal.Gen Idealize.ShloMosaic Idealize.ShloMosaic.TcCoe
open scoped BigOperators

variable (m : (ℓ : Loc nD τ sig) → Buf (Elt Ideal) ℓ) (c : Dev nD) (P Dc O L Γ : ℕ → ℕ → ℝ)
  (E : Entry m c P Dc O L Γ)

include E

/-- Result 0 of the call. -/
theorem result7 : (dats m 0 c).arrAt 7 cfg0.N = up2 4096 1024 fun t x => (∑ s : Fin 4096, dscore P Dc O L Γ (x / 128) t s * hd P 3584 (x / 128) s (x % 128)) * (Real.sqrt 128)⁻¹ := by
  refine (dats m 0 c).arrAt_eq_of_covers 7 _ (by decide +kernel) fun t hf y => ?_
  idx_bounds y
  blk_simp
  rw [after0_7]
  rw [rows7 m c P Dc O L Γ E t]
  simp only [up2_at, upc_at]
  blk_simp [idx7]
  have a : (t.val / 8 * 128 + (y 1).val) / 128 = t.val / 8 := by omega
  have b : (t.val / 8 * 128 + (y 1).val) % 128 = (y 1).val := by omega
  rw [a, b, Nat.mul_comm (t.val % 8) 512]

/-- Result 1 of the call. -/
theorem result8 : (dats m 0 c).arrAt 8 cfg0.N = up2 4096 1024 fun s x => (∑ t ∈ Finset.range 4096, dscore P Dc O L Γ (x / 128) t s * qs (hd P 2560 (x / 128)) t (x % 128)) * Real.log 2 := by
  refine (dats m 0 c).arrAt_eq_of_covers 8 _ (by decide +kernel) fun t hf y => ?_
  idx_bounds y
  blk_simp
  rw [after0_8]
  rw [(state m c P Dc O L Γ E t.val t.isLt).s8]
  have h7 : t.val % 8 = 7 := (flush0_8 t).mp hf
  simp only [up2_at, upc_at]
  blk_simp [idx8]
  have a : (t.val / 8 * 128 + (y 1).val) / 128 = t.val / 8 := by omega
  have b : (t.val / 8 * 128 + (y 1).val) % 128 = (y 1).val := by omega
  rw [a, b, h7]

/-- Result 2 of the call. -/
theorem result9 : (dats m 0 c).arrAt 9 cfg0.N = up2 4096 1024 fun s x => ∑ t ∈ Finset.range 4096, prob P L Γ (x / 128) t s * hd Dc 1024 (x / 128) t (x % 128) := by
  refine (dats m 0 c).arrAt_eq_of_covers 9 _ (by decide +kernel) fun t hf y => ?_
  idx_bounds y
  blk_simp
  rw [after0_9]
  rw [(state m c P Dc O L Γ E t.val t.isLt).s9]
  have h7 : t.val % 8 = 7 := (flush0_9 t).mp hf
  simp only [up2_at, upc_at]
  blk_simp [idx9]
  have a : (t.val / 8 * 128 + (y 1).val) / 128 = t.val / 8 := by omega
  have b : (t.val / 8 * 128 + (y 1).val) % 128 = (y 1).val := by omega
  rw [a, b, h7]

/-- Result 3 of the call. -/
theorem result10 : (dats m 0 c).arrAt 10 cfg0.N = (fun j : S8x8x1x512.Idx => ((-∑ t ∈ Finset.range 4096, dscore P Dc O L Γ (j 0).val t (512 * (j 1).val + (j 3).val) : ℝ) : EReal)) := by
  refine (dats m 0 c).arrAt_eq_of_covers 10 _ (by decide +kernel) fun t hf y => ?_
  idx_bounds y
  blk_simp
  rw [after0_10]
  rw [(state m c P Dc O L Γ E t.val t.isLt).s10]
  have h7 : t.val % 8 = 7 := (flush0_10 t).mp hf
  simp only [up2_at, upc_at]
  blk_simp [idx10]
  rw [h7]

/-- Result 4 of the call. -/
theorem result11 : (dats m 0 c).arrAt 11 cfg0.N = up2 4096 1024 fun t x => ∑ s : Fin 4096, dscore P Dc O L Γ (x / 128) t s := by
  refine (dats m 0 c).arrAt_eq_of_covers 11 _ (by decide +kernel) fun t hf y => ?_
  idx_bounds y
  blk_simp
  rw [after0_11]
  rw [rows11 m c P Dc O L Γ E t]
  simp only [up2_at, upc_at]
  blk_simp [idx11]
  have a : (t.val / 8 * 128 + (y 1).val) / 128 = t.val / 8 := by omega
  have b : (t.val / 8 * 128 + (y 1).val) % 128 = (y 1).val := by omega
  rw [a, Nat.mul_comm (t.val % 8) 512]

end Cert.Fox

end
-- ==== Proof.Soft.lean ====
/- The causal softmax over the reals: the weights of a row, their sum, the probabilities, and the row's maximum as the
   host's reduction takes it. -/
module

public import proofs.«01_k».proof.Proof.Tile

@[expose] public section

set_option maxRecDepth 16384

noncomputable section

namespace Cert.Fox

open Idealize.ShloMosaic Idealize.ShloMosaic.TcCoe
open scoped BigOperators

/-- An array of extended reals with three axes and the real entries `f i j k`. -/
def up3 (l m n : ℕ) (f : ℕ → ℕ → ℕ → ℝ) : (⟨3, ![l, m, n]⟩ : Shape).Idx → EReal :=
  fun j => ((f (j 0).val (j 1).val (j 2).val : ℝ) : EReal)

theorem up3_at (l m n : ℕ) (f : ℕ → ℕ → ℕ → ℝ) (j : (⟨3, ![l, m, n]⟩ : Shape).Idx) :
    up3 l m n f j = ((f (j 0).val (j 1).val (j 2).val : ℝ) : EReal) := rfl

/-- The scores of the causal attention: minus infinity behind the diagonal. -/
def msk (x : ℕ → ℕ → ℝ) (t s : ℕ) : EReal := if s ≤ t then ((x t s : ℝ) : EReal) else ⊥

/-- The weight of column `s` in row `t`. -/
def wt (x : ℕ → ℕ → ℝ) (t s : ℕ) : ℝ := if s ≤ t then Real.exp (x t s) else 0

/-- The sum of a row's weights. -/
def tot (x : ℕ → ℕ → ℝ) (t : ℕ) : ℝ := ∑ s : Fin 4096, wt x t s

/-- The probability of column `s` in row `t`. -/
def pr (x : ℕ → ℕ → ℝ) (t s : ℕ) : ℝ := wt x t s / tot x t

/-- The largest score of a row. -/
def top (x : ℕ → ℕ → ℝ) (t : ℕ) : ℝ := (Finset.fold max ⊥ (fun s : Fin 4096 => msk x t s.val) Finset.univ).toReal

theorem fold_top (x : ℕ → ℕ → ℝ) (t : ℕ) (ht : t < 4096) :
    Finset.fold max ⊥ (fun s : Fin 4096 => msk x t s.val) Finset.univ = ((top x t : ℝ) : EReal) := by
  refine (EReal.coe_toReal ?_ ?_).symm
  · refine ne_of_lt ((Finset.fold_max_lt _).mpr ⟨bot_lt_top, fun s _ => ?_⟩)
    unfold msk
    split
    · exact EReal.coe_lt_top _
    · exact bot_lt_top
  · refine ne_of_gt (lt_of_lt_of_le (EReal.bot_lt_coe (x t t)) ((Finset.le_fold_max _).mpr (Or.inr ⟨⟨t, ht⟩, Finset.mem_univ _, ?_⟩)))
    simp only [msk, le_refl, if_true]

/-- The exponential of a masked score less a real number is the weight of the difference. -/
theorem exp_msk (x : ℕ → ℕ → ℝ) (μ : ℕ → ℝ) (t s : ℕ) :
    Ideal.exp (msk x t s - ((μ t : ℝ) : EReal)) = ((wt (fun t s => x t s - μ t) t s : ℝ) : EReal) := by
  unfold msk wt
  split
  · rw [← EReal.coe_sub, Ideal.exp_coe]
  · rw [EReal.bot_sub, Ideal.exp_bot, EReal.coe_zero]

theorem wt_shift (x : ℕ → ℕ → ℝ) (μ : ℕ → ℝ) (t s : ℕ) : wt (fun t s => x t s - μ t) t s = wt x t s * Real.exp (-μ t) := by
  unfold wt
  split
  · exact (congrArg Real.exp (sub_eq_add_neg _ _)).trans (Real.exp_add _ _)
  · rw [zero_mul]

theorem tot_shift (x : ℕ → ℕ → ℝ) (μ : ℕ → ℝ) (t : ℕ) : tot (fun t s => x t s - μ t) t = tot x t * Real.exp (-μ t) := by
  unfold tot
  rw [Finset.sum_mul]
  exact Finset.sum_congr rfl fun s _ => wt_shift x μ t s

/-- The probabilities do not see a number taken off a row. -/
theorem pr_shift (x : ℕ → ℕ → ℝ) (μ : ℕ → ℝ) (t s : ℕ) : pr (fun t s => x t s - μ t) t s = pr x t s := by
  unfold pr
  rw [wt_shift, tot_shift, mul_div_mul_right _ _ (Real.exp_pos _).ne']

theorem wt_nonneg (x : ℕ → ℕ → ℝ) (t s : ℕ) : 0 ≤ wt x t s := by
  unfold wt
  split
  · exact (Real.exp_pos _).le
  · exact le_refl _

theorem tot_pos (x : ℕ → ℕ → ℝ) (t : ℕ) (ht : t < 4096) : 0 < tot x t := by
  refine Finset.sum_pos' (fun s _ => wt_nonneg x t s) ⟨⟨t, ht⟩, Finset.mem_univ _, ?_⟩
  simp only [wt, le_refl, if_true]
  exact Real.exp_pos _

theorem log_tot (x : ℕ → ℕ → ℝ) (μ : ℕ → ℝ) (t : ℕ) (ht : t < 4096) :
    μ t + Real.log (tot (fun t s => x t s - μ t) t) = Real.log (tot x t) := by
  rw [tot_shift, Real.log_mul (tot_pos x t ht).ne' (Real.exp_pos _).ne', Real.log_exp]
  ring

/-- A probability as a power of two, from the row's log-sum-exp in bits. -/
theorem pow_pr (x : ℕ → ℕ → ℝ) (t s : ℕ) (ht : t < 4096) :
    (if s ≤ t then (2 : ℝ) ^ ((x t s - Real.log (tot x t)) / Real.log 2) else 0) = pr x t s := by
  unfold pr wt
  split
  · rw [Real.rpow_def_of_pos two_pos, mul_div_cancel₀ _ (Real.log_pos one_lt_two).ne', Real.exp_sub,
      Real.exp_log (tot_pos x t ht)]
  · rw [zero_div]

/-- The inner products of the queries and the keys of head `h`. -/
def dotqk (P : ℕ → ℕ → ℝ) (h t s : ℕ) : ℝ := ∑ d : Fin 128, P t (2560 + 128 * h + d) * P s (3584 + 128 * h + d)

/-- The cotangent of the probabilities. -/
def dotdv (P D : ℕ → ℕ → ℝ) (h t s : ℕ) : ℝ := ∑ d : Fin 128, D t (1024 + 128 * h + d) * P s (4608 + 128 * h + d)

/-- The scaled scores less the column's gate. -/
def score (P C : ℕ → ℕ → ℝ) (h t s : ℕ) : ℝ := dotqk P h t s / Real.sqrt 128 - C s h

theorem ofBits_128 : Ideal.ofBits .f32 0x43000000#32 = ((128 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem sqrt_128 : Ideal.sqrt (Ideal.ofBits .f32 0x43000000#32) = ((Real.sqrt 128 : ℝ) : EReal) := by
  rw [ofBits_128, Ideal.sqrt_coe, if_neg (by norm_num)]

theorem log_two : Ideal.log (Ideal.ofBits .f32 0x40000000#32) = ((Real.log 2 : ℝ) : EReal) := by
  rw [ofBits_two, Ideal.log_coe, if_neg (by norm_num)]

theorem div_real (x y : ℝ) (h : y ≠ 0) : Ideal.div ((x : ℝ) : EReal) ((y : ℝ) : EReal) = ((x / y : ℝ) : EReal) := by
  rw [Ideal.div_coe h, ← EReal.coe_mul, mul_one_div]

theorem root_ne : Real.sqrt 128 ≠ 0 := (Real.sqrt_pos.mpr (by norm_num)).ne'

theorem ln2_ne : Real.log 2 ≠ 0 := (Real.log_pos one_lt_two).ne'

theorem select_word (p : Prop) [Decidable p] (a b : EReal) :
    Scalar.select (BitVec.ofBool (decide p)) a b = if p then a else b := by
  by_cases h : p <;> simp [Scalar.select, h]

/-- The word of a position's comparison, for positions below 4096. -/
theorem sle_word (a b : ℕ) (ha : a < 4096) (hb : b < 4096) :
    IntOp.cmpi .sle (BitVec.ofNat 32 a) (BitVec.ofNat 32 b) = BitVec.ofBool (decide (a ≤ b)) := by
  have e : ∀ x : ℕ, x < 4096 → (BitVec.ofNat 32 x).toInt = x := fun x hx => by
    rw [BitVec.toInt_eq_toNat_of_lt] <;> rw [BitVec.toNat_ofNat] <;> omega
  simp only [IntOp.cmpi, BitVec.sle, e _ ha, e _ hb]
  norm_cast

theorem select_le (a b : ℕ) (ha : a < 4096) (hb : b < 4096) (x y : EReal) :
    Scalar.select (IntOp.cmpi .sle (BitVec.ofNat 32 a) (BitVec.ofNat 32 b)) x y = if a ≤ b then x else y := by
  rw [sle_word a b ha hb, select_word]

end Cert.Fox

end
-- ==== Proof.Host.lean ====
/- The host operations before the call: the attention's output, its log-sum-exp in bits and the scaled gate, as
   functions of the arguments. -/
module

public import proofs.«01_k».proof.Proof.Head
public import proofs.«01_k».proof.Proof.Soft

@[expose] public section

set_option maxRecDepth 16384

noncomputable section

namespace Cert.Fox

open Cert.KernelIdeal Cert.KernelIdeal.Gen Idealize.ShloMosaic Idealize.ShloMosaic.TcCoe
open scoped BigOperators

section Terms

variable (x0 : (⟨S4096x5760, .f32⟩ : BufTy).Contents (Elt Ideal)) (x1 : (⟨S4096x8, .f32⟩ : BufTy).Contents (Elt Ideal))

/-- The queries, head by head. -/
def hQ : (⟨S4096x8x128, .f32⟩ : BufTy).Contents (Elt Ideal) :=
  shapeCast S4096x8x128 (extractStridedSlice S4096x1024 ![0, 2560] x0 slices_S4096x5760_S4096x1024_0_2560) shapeCasts_S4096x1024_S4096x8x128

/-- The keys. -/
def hK : (⟨S4096x8x128, .f32⟩ : BufTy).Contents (Elt Ideal) :=
  shapeCast S4096x8x128 (extractStridedSlice S4096x1024 ![0, 3584] x0 slices_S4096x5760_S4096x1024_0_3584) shapeCasts_S4096x1024_S4096x8x128

/-- The values. -/
def hV : (⟨S4096x8x128, .f32⟩ : BufTy).Contents (Elt Ideal) :=
  shapeCast S4096x8x128 (extractStridedSlice S4096x1024 ![0, 4608] x0 slices_S4096x5760_S4096x1024_0_4608) shapeCasts_S4096x1024_S4096x8x128

/-- The scores of the queries and the keys. -/
def hDot : (⟨S8x4096x4096, .f32⟩ : BufTy).Contents (Elt Ideal) :=
  Host.dotGeneral (F := Ideal) (φ₁ := .f32) (φ₂ := .f32) dot_S4096x8x128_S4096x8x128_S8x4096x4096_2_2_0_0_1_1 none (hQ x0) (hK x0)

/-- The scaled scores less the column's gate. -/
def hLogit : (⟨S8x4096x4096, .f32⟩ : BufTy).Contents (Elt Ideal) :=
  subf (F := Ideal) (φ := .f32) (Host.divf (F := Ideal) (φ := .f32) (hDot x0) (broadcastInDim S8x4096x4096 ![] bcast_S_S8x4096x4096 (Host.sqrt (F := Ideal) (φ := .f32) (constant S_ .f32 0x43000000#32))))
    (broadcastInDim S8x4096x4096 ![0, 1, 2] bcast_S8x1x4096_S8x4096x4096_0_1_2
      (broadcastInDim S8x1x4096 ![0, 2] bcast_S8x4096_S8x1x4096_0_2 (transpose S8x4096 [1, 0] x1 transposes_S4096x8_S8x4096_1_0)))

/-- The causal comparison of the positions. -/
def hLe : (⟨S4096x4096, .i1⟩ : BufTy).Contents (Elt Ideal) :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked scores. -/
def hMask : (⟨S8x4096x4096, .f32⟩ : BufTy).Contents (Elt Ideal) :=
  select (broadcastInDim S8x4096x4096 ![1, 2] bcast_S4096x4096_S8x4096x4096_1_2 hLe) (hLogit x0 x1)
    (broadcastInDim S8x4096x4096 ![] bcast_S_S8x4096x4096 (constant (F := Ideal) S_ .f32 0xFF800000#32))

/-- The rows' maxima. -/
def hTop : (⟨S8x4096x1, .f32⟩ : BufTy).Contents (Elt Ideal) :=
  broadcastInDim S8x4096x1 ![0, 1] bcast_S8x4096_S8x4096x1_0_1
    (Host.reduce (FloatOps.maximumf (F := Ideal) (φ := .f32)) (hMask x0 x1) (constant (F := Ideal) S_ .f32 0xFF800000#32) reducesTo_S8x4096x4096_S8x4096_d2 h_S_)

/-- The weights. -/
def hWt : (⟨S8x4096x4096, .f32⟩ : BufTy).Contents (Elt Ideal) :=
  Host.exp (F := Ideal) (φ := .f32) (subf (F := Ideal) (φ := .f32) (hMask x0 x1) (broadcastInDim S8x4096x4096 ![0, 1, 2] bcast_S8x4096x1_S8x4096x4096_0_1_2 (hTop x0 x1)))

/-- The rows' sums. -/
def hTot : (⟨S8x4096x1, .f32⟩ : BufTy).Contents (Elt Ideal) :=
  broadcastInDim S8x4096x1 ![0, 1] bcast_S8x4096_S8x4096x1_0_1
    (Host.reduceAdd (F := Ideal) (φ := .f32) (hWt x0 x1) (constant (F := Ideal) S_ .f32 0x00000000#32) reducesTo_S8x4096x4096_S8x4096_d2 h_S_)

/-- The attention's output. -/
def hOut : (⟨S4096x1024, .bf16⟩ : BufTy).Contents (Elt Ideal) :=
  truncf (F := Ideal) (φ := .f32) .bf16 (shapeCast S4096x1024 (transpose S4096x8x128 [2, 0, 1]
    (Host.dotGeneral (F := Ideal) (φ₁ := .f32) (φ₂ := .f32) dot_S4096x8x128_S8x4096x4096_S8x128x4096_0_2_2_1_1_0 none (hV x0)
      (Host.divf (F := Ideal) (φ := .f32) (hWt x0 x1) (broadcastInDim S8x4096x4096 ![0, 1, 2] bcast_S8x4096x1_S8x4096x4096_0_1_2 (hTot x0 x1))))
    transposes_S8x128x4096_S4096x8x128_2_0_1) shapeCasts_S4096x8x128_S4096x1024) bitsLt_bf16_f32

/-- The log-sum-exp in bits, repeated over a head's columns. -/
def hLse : (⟨S4096x1024, .f32⟩ : BufTy).Contents (Elt Ideal) :=
  shapeCast S4096x1024 (broadcastInDim S4096x8x128 ![0, 1] bcast_S4096x8_S4096x8x128_0_1 (transpose S4096x8 [1, 0]
    (shapeCast S8x4096 (Host.divf (F := Ideal) (φ := .f32) (addf (F := Ideal) (φ := .f32) (hTop x0 x1) (Host.log (F := Ideal) (φ := .f32) (hTot x0 x1)))
      (broadcastInDim S8x4096x1 ![] bcast_S_S8x4096x1 (Host.log (F := Ideal) (φ := .f32) (constant S_ .f32 0x40000000#32)))) shapeCasts_S8x4096x1_S8x4096)
    transposes_S8x4096_S4096x8_1_0)) shapeCasts_S4096x8x128_S4096x1024

/-- The gate in bits, in the call's layout. -/
def hGate : (⟨S8x8x1x512, .f32⟩ : BufTy).Contents (Elt Ideal) :=
  Host.divf (F := Ideal) (φ := .f32) (shapeCast S8x8x1x512 (transpose S8x4096 [1, 0] x1 transposes_S4096x8_S8x4096_1_0) shapeCasts_S8x4096_S8x8x1x512)
    (broadcastInDim S8x8x1x512 ![] bcast_S_S8x8x1x512 (Host.log (F := Ideal) (φ := .f32) (constant S_ .f32 0x40000000#32)))

end Terms

variable (m : (ℓ : Loc nD τ sig) → Buf (Elt Ideal) ℓ) (c : Dev nD)

theorem entry_gate : V m c main_v47 = hGate (m (c, Proc.tc.devRef main_arg1)) := by
  unfold V
  simp only [hostOps0, hostOps0_1, hostOps0_2, List.flatten_cons, List.flatten_nil, List.append_nil, List.cons_append, List.nil_append]
  entry_read
  rfl

theorem entry_out : V m c main_v33 = hOut (m (c, Proc.tc.devRef main_arg0)) (m (c, Proc.tc.devRef main_arg1)) := by
  unfold V
  simp only [hostOps0, hostOps0_1, hostOps0_2, List.flatten_cons, List.flatten_nil, List.append_nil, List.cons_append, List.nil_append]
  entry_read
  rfl

theorem entry_lse : V m c main_v42 = hLse (m (c, Proc.tc.devRef main_arg0)) (m (c, Proc.tc.devRef main_arg1)) := by
  unfold V
  simp only [hostOps0, hostOps0_1, hostOps0_2, List.flatten_cons, List.flatten_nil, List.append_nil, List.cons_append, List.nil_append]
  entry_read
  rfl

section Values

variable (P C : ℕ → ℕ → ℝ)

/-- The scores less their row's maximum. -/
def slow (h t s : ℕ) : ℝ := score P C h t s - top (score P C h) t

local notation "A0" => up2 4096 5760 P
local notation "A1" => up2 4096 8 C

theorem v_q : hQ (A0) = up3 4096 8 128 fun t h d => P t (2560 + 128 * h + d) := by
  funext j
  idx_bounds j
  pointwise [hQ]
  refine congrArg (fun x : ℝ => (x : EReal)) (congrArg (P (j 0).val) ?_)
  change 2560 + ((j 1).val * 128 + (j 2).val) = 2560 + 128 * (j 1).val + (j 2).val
  omega

theorem v_k : hK (A0) = up3 4096 8 128 fun t h d => P t (3584 + 128 * h + d) := by
  funext j
  idx_bounds j
  pointwise [hK]
  refine congrArg (fun x : ℝ => (x : EReal)) (congrArg (P (j 0).val) ?_)
  change 3584 + ((j 1).val * 128 + (j 2).val) = 3584 + 128 * (j 1).val + (j 2).val
  omega

theorem v_v : hV (A0) = up3 4096 8 128 fun t h d => P t (4608 + 128 * h + d) := by
  funext j
  idx_bounds j
  pointwise [hV]
  refine congrArg (fun x : ℝ => (x : EReal)) (congrArg (P (j 0).val) ?_)
  change 4608 + ((j 1).val * 128 + (j 2).val) = 4608 + 128 * (j 1).val + (j 2).val
  omega

theorem v_dot : hDot (A0) = up3 8 4096 4096 (dotqk P) := by
  funext j
  pointwise [hDot, v_q, v_k]
  simp only [up3_at, ← EReal.coe_mul, coe_sum]
  rfl

theorem v_logit : hLogit (A0) (A1) = up3 8 4096 4096 (score P C) := by
  funext j
  pointwise [hLogit, v_dot]
  simp only [up2_at, up3_at, sqrt_128, div_real _ _ root_ne, ← EReal.coe_sub]
  rfl

theorem v_mask : hMask (A0) (A1) = fun j : S8x4096x4096.Idx => msk (score P C (j 0).val) (j 1).val (j 2).val := by
  funext j
  idx_bounds j
  pointwise [hMask, hLe, v_logit]
  rw [select_le _ _ hb2 hb1, ofBits_bot]
  rfl

theorem v_top : hTop (A0) (A1) = up3 8 4096 1 fun h t _ => top (score P C h) t := by
  funext j
  idx_bounds j
  pointwise [hTop, v_mask]
  rw [ofBits_bot]
  exact fold_top _ _ hb1

theorem v_wt : hWt (A0) (A1) = up3 8 4096 4096 fun h => wt (slow P C h) := by
  funext j
  pointwise [hWt, v_mask, v_top]
  exact exp_msk (score P C (j 0).val) (top (score P C (j 0).val)) (j 1).val (j 2).val

theorem v_tot : hTot (A0) (A1) = up3 8 4096 1 fun h t _ => tot (slow P C h) t := by
  funext j
  pointwise [hTot, v_wt]
  simp only [up3_at, coe_sum]
  rfl

theorem v_out : hOut (A0) (A1) = up2 4096 1024 fun t x => ∑ s : Fin 4096, P s (4608 + 128 * (x / 128) + x % 128) * pr (slow P C (x / 128)) t s := by
  funext j
  idx_bounds j
  have e := fun h s => div_real (wt (slow P C h) (j 0).val s) _ (tot_pos (slow P C h) (j 0).val hb0).ne'
  pointwise [hOut, v_v, v_wt, v_tot]
  refine (Finset.sum_congr rfl fun s _ => congrArg (HMul.hMul _) (e ((j 1).val / 128) s.val)).trans ?_
  simp only [up3_at, ← EReal.coe_mul, coe_sum]
  rfl

theorem v_lse : hLse (A0) (A1) = up2 4096 1024 fun t x =>
    (top (score P C (x / 128)) t + Real.log (tot (slow P C (x / 128)) t)) / Real.log 2 := by
  funext j
  idx_bounds j
  have e : ∀ h, Ideal.log ((tot (slow P C h) (j 0).val : ℝ) : EReal) = ((Real.log (tot (slow P C h) (j 0).val) : ℝ) : EReal) := fun h => by
    rw [Ideal.log_coe, if_neg (not_le.mpr (tot_pos _ _ hb0))]
  pointwise [hLse, v_top, v_tot]
  refine (congrArg (fun z => Ideal.div (((top (score P C ((j 1).val / 128)) (j 0).val : ℝ) : EReal) + z) (Ideal.log (Ideal.ofBits .f32 0x40000000#32)))
    (e ((j 1).val / 128))).trans ?_
  rw [log_two, ← EReal.coe_add, div_real _ _ ln2_ne]
  rfl

theorem v_gate : hGate (A1) = fun j : S8x8x1x512.Idx => ((C (512 * (j 1).val + (j 3).val) (j 0).val / Real.log 2 : ℝ) : EReal) := by
  funext j
  idx_bounds j
  pointwise [hGate]
  rw [log_two, up2_at, div_real _ _ ln2_ne, mul_comm 512]
  rfl

end Values

end Cert.Fox
end
-- ==== Proof.RefVal.lean ====
/- The reference's operations on real arrays: each value as a function of the projection, the cumulative gate and the
   cotangent. -/
module

public import proofs.«01_k».proof.Proof.Soft
public import proofs.«01_k».proof.Proof.Gen.ReferenceIdeal.Read
public import Idealize.ShloMosaic.Lib.Pipeline.ValueKit

@[expose] public section

set_option maxRecDepth 16384

noncomputable section

namespace Cert.FoxRef

open Cert.Fox Cert.ReferenceIdeal Cert.ReferenceIdeal.Read Idealize.ShloMosaic Idealize.ShloMosaic.TcCoe
open scoped BigOperators

variable (P C D : ℕ → ℕ → ℝ)

/-- The logits of head `h`. -/
def logit (h t s : ℕ) : ℝ := dotqk P h t s / Real.sqrt 128 + C t h - C s h

/-- The logits less their row's maximum. -/
def low (h t s : ℕ) : ℝ := logit P C h t s - top (logit P C h) t

/-- The gradient of the logits. -/
def gs (h t s : ℕ) : ℝ :=
  if s ≤ t then
    (dotdv P D h t s / tot (low P C h) t
      + -∑ s' : Fin 4096, dotdv P D h t s' * (1 / (tot (low P C h) t * tot (low P C h) t)) * wt (low P C h) t s') * wt (low P C h) t s
  else 0

local notation "A0" => up2 4096 5760 P
local notation "A1" => up2 4096 8 C
local notation "A2" => up2 4096 2048 D

theorem r_q : val_main_v1 (F := Ideal) (A0) = up3 4096 8 128 fun t h d => P t (2560 + 128 * h + d) := by
  funext j
  idx_bounds j
  rw [val_main_v1_apply, val_main_v0_apply, up2_at, up3_at]
  exact congrArg (fun x : ℝ => (x : EReal)) (by dsimp only; congr 1 <;> omega)

theorem r_k : val_main_v3 (F := Ideal) (A0) = up3 4096 8 128 fun t h d => P t (3584 + 128 * h + d) := by
  funext j
  idx_bounds j
  rw [val_main_v3_apply, val_main_v2_apply, up2_at, up3_at]
  exact congrArg (fun x : ℝ => (x : EReal)) (by dsimp only; congr 1 <;> omega)

theorem r_v : val_main_v5 (F := Ideal) (A0) = up3 4096 8 128 fun t h d => P t (4608 + 128 * h + d) := by
  funext j
  idx_bounds j
  rw [val_main_v5_apply, val_main_v4_apply, up2_at, up3_at]
  exact congrArg (fun x : ℝ => (x : EReal)) (by dsimp only; congr 1 <;> omega)

theorem r_g : val_main_v8 (F := Ideal) (A2) = up3 4096 8 128 fun t h d => D t (1024 + 128 * h + d) := by
  funext j
  idx_bounds j
  rw [val_main_v8_apply, val_main_v7_apply, val_main_v6_apply, up2_at, up3_at]
  exact congrArg (fun x : ℝ => (x : EReal)) (by dsimp only; congr 1 <;> omega)

theorem r_dot : val_main_v9 (F := Ideal) (A0) = up3 8 4096 4096 (dotqk P) := by
  funext j
  pointwise [val_main_v9, r_q, r_k]
  simp only [up3_at, ← EReal.coe_mul, coe_sum]
  rfl

theorem r_logit : val_main_v20 (F := Ideal) (A0) (A1) = up3 8 4096 4096 (logit P C) := by
  funext j
  pointwise [val_main_v20, val_main_v19, val_main_v18, val_main_v17, val_main_v16, val_main_v15, val_main_v14, val_main_v13, val_main_v12,
    r_dot, val_main_v11, val_main_v10, val_main_cst]
  simp only [up2_at, up3_at, sqrt_128, div_real _ _ root_ne, ← EReal.coe_add, ← EReal.coe_sub]
  rfl

theorem r_mask : val_main_v27_0 (F := Ideal) (A0) (A1) = fun j : S8x4096x4096.Idx => msk (logit P C (j 0).val) (j 1).val (j 2).val := by
  funext j
  idx_bounds j
  pointwise [val_main_v27_0, val_main_v27_1, val_main_v26, val_main_v25, val_main_v24, val_main_v23, val_main_v22, val_main_v21, r_logit, val_main_call0_v2, val_main_call0_v0, val_main_cst_0]
  rw [select_le _ _ hb2 hb1]
  refine congrArg (ite _ _) ?_
  exact ofBits_bot

theorem r_top : val_main_v28 (F := Ideal) (A0) (A1) = up2 8 4096 fun h t => top (logit P C h) t := by
  funext j
  idx_bounds j
  pointwise [val_main_v28, r_mask, val_main_cst_1]
  rw [ofBits_bot, fold_top _ _ hb1]
  rfl

theorem r_wt : val_main_v48 (F := Ideal) (A0) (A1) = up3 8 4096 4096 fun h => wt (low P C h) := by
  funext j
  pointwise [val_main_v48, val_main_v47, val_main_v46, val_main_v45, val_main_v35, val_main_v34, r_mask, r_top, val_main_cst_2, val_main_cst_3]
  rw [ofBits_bot, max_eq_right bot_le]
  exact exp_msk (logit P C (j 0).val) (top (logit P C (j 0).val)) (j 1).val (j 2).val

theorem r_tot : val_main_v49 (F := Ideal) (A0) (A1) = up2 8 4096 fun h => tot (low P C h) := by
  funext j
  pointwise [val_main_v49, r_wt, val_main_cst_9]
  simp only [up3_at, coe_sum]
  rfl

theorem tot_ne (h t : ℕ) (ht : t < 4096) : tot (low P C h) t ≠ 0 := (tot_pos _ t ht).ne'

theorem r_pr : val_main_v52 (F := Ideal) (A0) (A1) = up3 8 4096 4096 fun h => pr (low P C h) := by
  funext j
  idx_bounds j
  pointwise [val_main_v52, val_main_v51, val_main_v50, r_wt, r_tot]
  exact div_real _ _ (tot_ne P C _ _ hb1)

theorem r_dp : val_main_v59 (F := Ideal) (A0) (A2) = up3 8 4096 4096 (dotdv P D) := by
  funext j
  pointwise [val_main_v59, val_main_v58, r_g, r_v]
  simp only [up3_at, ← EReal.coe_mul, coe_sum]
  rfl

theorem r_row : val_main_v65 (F := Ideal) (A0) (A1) (A2) = up2 8 4096 fun h t =>
    ∑ s' : Fin 4096, dotdv P D h t s' * (1 / (tot (low P C h) t * tot (low P C h) t)) * wt (low P C h) t s' := by
  funext j
  idx_bounds j
  pointwise [val_main_v65, val_main_v64, val_main_v63, val_main_v62, val_main_v55, val_main_v54, val_main_v53, val_main_v50, r_wt, r_tot, r_dp, val_main_cst_10, val_main_cst_11]
  simp only [up2_at, up3_at, ← EReal.coe_mul, ← EReal.coe_one, div_real _ _ (mul_ne_zero (tot_ne P C _ _ hb1) (tot_ne P C _ _ hb1)), coe_sum]
  rfl

theorem r_gs : val_main_v74 (F := Ideal) (A0) (A1) (A2) = up3 8 4096 4096 (gs P C D) := by
  funext j
  idx_bounds j
  pointwise [val_main_v74, val_main_v73, val_main_v72, val_main_v71, val_main_v70, val_main_v69, val_main_v68, val_main_v67, val_main_v66, val_main_v50, r_wt, r_tot, r_dp, r_row, val_main_v27_1, val_main_v26, val_main_v25, val_main_v24, val_main_v23, val_main_v22, val_main_v21, val_main_cst_12, val_main_call1_v0, val_main_call1_cst]
  rw [select_le _ _ hb2 hb1, Finset.univ_unique, Finset.sum_singleton]
  have e := div_real (dotdv P D (j 0).val (j 1).val (j 2).val) _ (tot_ne P C (j 0).val (j 1).val hb1)
  refine Eq.trans (congrArg (fun z : EReal => if (j 2).val ≤ (j 1).val then (z + -((∑ s' : Fin 4096, dotdv P D (j 0).val (j 1).val s'
    * (1 / (tot (low P C (j 0).val) (j 1).val * tot (low P C (j 0).val) (j 1).val)) * wt (low P C (j 0).val) (j 1).val s' : ℝ) : EReal))
    * ((wt (low P C (j 0).val) (j 1).val (j 2).val : ℝ) : EReal) else 0) e) ?_
  rw [up3_at]
  unfold gs
  split
  · rw [EReal.coe_mul, EReal.coe_add, EReal.coe_neg]
  · rw [EReal.coe_zero]

theorem r_dv : val_main_v93 (F := Ideal) (A0) (A1) (A2) = up2 4096 1024 fun s x =>
    ∑ t : Fin 4096, D t (1024 + 128 * (x / 128) + x % 128) * pr (low P C (x / 128)) t s := by
  funext j
  idx_bounds j
  pointwise [val_main_v93, val_main_v61, val_main_v60, val_main_v58, r_g, r_pr]
  simp only [up3_at, up2_at, ← EReal.coe_mul, coe_sum]
  rfl

theorem r_dk : val_main_v92 (F := Ideal) (A0) (A1) (A2) = up2 4096 1024 fun s x =>
    ∑ t : Fin 4096, gs P C D (x / 128) t s / Real.sqrt 128 * P t (2560 + 128 * (x / 128) + x % 128) := by
  funext j
  idx_bounds j
  pointwise [val_main_v92, val_main_v87, val_main_v86, val_main_v85, val_main_v84, val_main_v10, val_main_cst, r_gs, r_q]
  simp only [up3_at, up2_at, sqrt_128, div_real _ _ root_ne, ← EReal.coe_mul, coe_sum]
  rfl

theorem r_dq : val_main_v91 (F := Ideal) (A0) (A1) (A2) = up2 4096 1024 fun t x =>
    ∑ s : Fin 4096, gs P C D (x / 128) t s / Real.sqrt 128 * P s (3584 + 128 * (x / 128) + x % 128) := by
  funext j
  idx_bounds j
  pointwise [val_main_v91, val_main_v90, val_main_v89, val_main_v88, val_main_v85, val_main_v84, val_main_v10, val_main_cst, r_gs, r_k]
  simp only [up3_at, up2_at, sqrt_128, div_real _ _ root_ne, ← EReal.coe_mul, coe_sum]
  rfl

theorem r_dck : val_main_v95 (F := Ideal) (A0) (A1) (A2) = fun j : S8x8x1x512.Idx =>
    ((∑ t : Fin 4096, -gs P C D (j 0).val t (512 * (j 1).val + (j 3).val) : ℝ) : EReal) := by
  funext j
  idx_bounds j
  pointwise [val_main_v95, val_main_v94, val_main_v79, val_main_v78, val_main_v77, val_main_v76, val_main_v75, val_main_cst_13, val_main_cst_14, r_gs]
  rw [Finset.univ_unique, Finset.sum_singleton]
  simp only [up3_at, ← EReal.coe_neg, coe_sum]
  rw [mul_comm 512]
  rfl

theorem r_dcq : val_main_v97 (F := Ideal) (A0) (A1) (A2) = up2 4096 1024 fun t x => ∑ s : Fin 4096, gs P C D (x / 128) t s := by
  funext j
  idx_bounds j
  pointwise [val_main_v97, val_main_v96, val_main_v83, val_main_v82, val_main_v81, val_main_v80, val_main_cst_15, val_main_cst_16, r_gs]
  rw [Finset.univ_unique, Finset.sum_singleton]
  simp only [up3_at, coe_sum]
  rfl

end Cert.FoxRef

end
-- ==== Proof.Same.lean ====
/- The two programs' results agree: over the reals the call's tiles and the reference's gradient are the same sums. -/
module

public import proofs.«01_k».proof.Proof.Host
public import proofs.«01_k».proof.Proof.RefVal

@[expose] public section

set_option maxRecDepth 16384

noncomputable section

namespace Cert.Fox

open Cert.FoxRef Idealize.ShloMosaic Idealize.ShloMosaic.TcCoe
open scoped BigOperators

variable (P C D : ℕ → ℕ → ℝ)

/-- The attention's output, as the call reads it. -/
def outv (t x : ℕ) : ℝ := ∑ s : Fin 4096, P s (4608 + 128 * (x / 128) + x % 128) * pr (slow P C (x / 128)) t s

/-- The log-sum-exp in bits, as the call reads it. -/
def lsev (h t : ℕ) : ℝ := (top (score P C h) t + Real.log (tot (slow P C h) t)) / Real.log 2

/-- The gate in bits, as the call reads it. -/
def gatev (h s : ℕ) : ℝ := C s h / Real.log 2

theorem pr_slow (h t s : ℕ) : pr (slow P C h) t s = pr (score P C h) t s := pr_shift (score P C h) (top (score P C h)) t s

theorem pr_low (h t s : ℕ) : pr (low P C h) t s = pr (score P C h) t s := by
  refine (pr_shift (logit P C h) (top (logit P C h)) t s).trans ?_
  have e : logit P C h = fun t s => score P C h t s - (-C t h) := by
    funext t s
    unfold logit score
    ring
  rw [e]
  exact pr_shift (score P C h) (fun t => -C t h) t s

theorem lsev_eq (h t : ℕ) (ht : t < 4096) : lsev P C h t = Real.log (tot (score P C h) t) / Real.log 2 :=
  congrArg (· / Real.log 2) (log_tot (score P C h) (top (score P C h)) t ht)

/-- The call's probabilities are the softmax's. -/
theorem prob_eq (h t s : ℕ) (ht : t < 4096) : prob P (lsev P C) (gatev C) h t s = pr (score P C h) t s := by
  rw [← pow_pr _ _ _ ht]
  unfold prob pg
  rw [mul_zero, zero_add]
  refine if_congr Iff.rfl ?_ rfl
  refine congrArg (fun x : ℝ => (2 : ℝ) ^ x) ?_
  unfold ex
  rw [lsev_eq P C h t ht]
  have e : ∑ d : Fin 128, qs (hd P 2560 h) t d * hd P 3584 h s d = dotqk P h t s * ((Real.sqrt 128)⁻¹ * (Real.log 2)⁻¹) := by
    unfold dotqk
    rw [Finset.sum_mul]
    refine Finset.sum_congr rfl fun d _ => ?_
    unfold qs hd
    ring
  rw [e]
  unfold gatev score
  ring

/-- The row's mean of the cotangent's products, which the call takes from the attention's output. -/
theorem mean_eq (h t : ℕ) : dl (hd D 1024 h) (hd (outv P C) 0 h) t = ∑ s : Fin 4096, pr (score P C h) t s * dotdv P D h t s := by
  have e : ∀ d : Fin 128, hd (outv P C) 0 h t d = ∑ s : Fin 4096, P s (4608 + 128 * h + d) * pr (score P C h) t s := fun d => by
    have hd := d.isLt
    have a : (0 + 128 * h + d.val) / 128 = h := by omega
    have b : (0 + 128 * h + d.val) % 128 = d.val := by omega
    unfold Cert.Fox.hd outv
    rw [a, b]
    exact Finset.sum_congr rfl fun s _ => by rw [pr_slow]
  unfold dl
  simp only [e, Finset.mul_sum, dotdv]
  rw [Finset.sum_comm]
  refine Finset.sum_congr rfl fun s _ => Finset.sum_congr rfl fun d _ => ?_
  unfold hd
  ring

/-- The reference's gradient of the logits. -/
theorem gs_eq (h t s : ℕ) (ht : t < 4096) : gs P C D h t s
    = pr (score P C h) t s * (dotdv P D h t s - ∑ s' : Fin 4096, pr (score P C h) t s' * dotdv P D h t s') := by
  simp only [← pr_low P C h]
  have n := tot_ne P C h t ht
  unfold gs
  split
  · have e : ∑ s' : Fin 4096, dotdv P D h t s' * (1 / (tot (low P C h) t * tot (low P C h) t)) * wt (low P C h) t s'
        = (∑ s' : Fin 4096, pr (low P C h) t s' * dotdv P D h t s') / tot (low P C h) t := by
      rw [Finset.sum_div]
      refine Finset.sum_congr rfl fun s' _ => ?_
      unfold pr
      field_simp
    rw [e]
    generalize ∑ s' : Fin 4096, pr (low P C h) t s' * dotdv P D h t s' = z
    unfold pr
    field_simp
    ring
  · rename_i hs
    unfold pr wt
    rw [if_neg hs, zero_div, zero_mul]

/-- The call's gradient of the scores is the reference's. -/
theorem dscore_eq (h t s : ℕ) (ht : t < 4096) : dscore P D (outv P C) (lsev P C) (gatev C) h t s = gs P C D h t s := by
  rw [gs_eq P C D h t s ht, ← mean_eq P C D h t, ← prob_eq P C h t s ht]
  rfl

theorem range_fin (f : ℕ → ℝ) : ∑ t ∈ Finset.range 4096, f t = ∑ t : Fin 4096, f t := Finset.sum_range f

theorem same7 : (up2 4096 1024 fun t x => (∑ s : Fin 4096, dscore P D (outv P C) (lsev P C) (gatev C) (x / 128) t s * hd P 3584 (x / 128) s (x % 128)) * (Real.sqrt 128)⁻¹)
    = up2 4096 1024 fun t x => ∑ s : Fin 4096, gs P C D (x / 128) t s / Real.sqrt 128 * P s (3584 + 128 * (x / 128) + x % 128) := by
  funext j
  idx_bounds j
  refine congrArg (fun x : ℝ => (x : EReal)) ?_
  dsimp only
  rw [Finset.sum_mul]
  refine Finset.sum_congr rfl fun s _ => ?_
  rw [dscore_eq P C D _ _ _ hb0, div_eq_mul_inv]
  unfold hd
  ring

theorem same8 : (up2 4096 1024 fun s x => (∑ t ∈ Finset.range 4096, dscore P D (outv P C) (lsev P C) (gatev C) (x / 128) t s * qs (hd P 2560 (x / 128)) t (x % 128)) * Real.log 2)
    = up2 4096 1024 fun s x => ∑ t : Fin 4096, gs P C D (x / 128) t s / Real.sqrt 128 * P t (2560 + 128 * (x / 128) + x % 128) := by
  funext j
  refine congrArg (fun x : ℝ => (x : EReal)) ?_
  dsimp only
  rw [range_fin, Finset.sum_mul]
  refine Finset.sum_congr rfl fun t _ => ?_
  rw [dscore_eq P C D _ _ _ t.isLt, div_eq_mul_inv]
  unfold qs hd
  have n := ln2_ne
  field_simp

theorem same9 : (up2 4096 1024 fun s x => ∑ t ∈ Finset.range 4096, prob P (lsev P C) (gatev C) (x / 128) t s * hd D 1024 (x / 128) t (x % 128))
    = up2 4096 1024 fun s x => ∑ t : Fin 4096, D t (1024 + 128 * (x / 128) + x % 128) * pr (low P C (x / 128)) t s := by
  funext j
  refine congrArg (fun x : ℝ => (x : EReal)) ?_
  dsimp only
  rw [range_fin]
  refine Finset.sum_congr rfl fun t _ => ?_
  rw [prob_eq P C _ _ _ t.isLt, pr_low]
  exact mul_comm _ _

theorem same10 (h s : ℕ) : -∑ t ∈ Finset.range 4096, dscore P D (outv P C) (lsev P C) (gatev C) h t s = ∑ t : Fin 4096, -gs P C D h t s := by
  rw [range_fin, Finset.sum_neg_distrib]
  exact congrArg Neg.neg (Finset.sum_congr rfl fun t _ => dscore_eq P C D _ _ _ t.isLt)

theorem same11 : (up2 4096 1024 fun t x => ∑ s : Fin 4096, dscore P D (outv P C) (lsev P C) (gatev C) (x / 128) t s)
    = up2 4096 1024 fun t x => ∑ s : Fin 4096, gs P C D (x / 128) t s := by
  funext j
  idx_bounds j
  exact congrArg (fun x : ℝ => (x : EReal)) (Finset.sum_congr rfl fun s _ => dscore_eq P C D _ _ _ hb0)

end Cert.Fox

end
-- ==== Proof.Algebra.lean ====
/- The value claim: from finite arguments the call's program and the reference end with the same arrays. -/
module

public import proofs.«01_k».proof.Defs
public import proofs.«01_k».proof.Proof.Gen.Pre_finite
public import proofs.«01_k».proof.Proof.Gen.KernelIdeal.Value
public import proofs.«01_k».proof.Proof.Result
public import proofs.«01_k».proof.Proof.Same
public import Idealize.ShloMosaic.Lib.ReduceAll
public import Idealize.ShloMosaic.Lib.Affine

@[expose] public section

set_option maxRecDepth 16384

noncomputable section

namespace Cert.Fox

open Cert.FoxRef Idealize.ShloMosaic Idealize.ShloMosaic.TcCoe Idealize.SL.Sem
open scoped BigOperators

theorem ofBits_inf : Ideal.ofBits .f32 0x7F800000#32 = ⊤ := by
  simp [Ideal.ofBits, Ideal.ieee]

/-- An array whose absolute values are all below infinity holds real numbers. -/
theorem real_of (x : EReal) (h : max x (-x) < ⊤) : ∃ r : ℝ, x = (r : EReal) := by
  induction x using EReal.rec with
  | bot => simp at h
  | coe r => exact ⟨r, rfl⟩
  | top => simp at h

theorem exists_up2 (m n : ℕ) (x : (⟨2, ![m, n]⟩ : Shape).Idx → EReal) (h : ∀ i, max (x i) (-(x i)) < ⊤) : ∃ f, x = up2 m n f := by
  choose g hg using fun i => real_of (x i) (h i)
  refine ⟨fun a b => if q : a < m ∧ b < n then g (ix2 ⟨a, q.1⟩ ⟨b, q.2⟩) else 0, ?_⟩
  funext j
  have q : (j 0).val < m ∧ (j 1).val < n := ⟨(j 0).isLt, (j 1).isLt⟩
  rw [up2_at, dif_pos q, hg]
  refine congrArg (fun i => ((g i : ℝ) : EReal)) ?_
  funext a
  match a with
  | ⟨0, _⟩ => rfl
  | ⟨1, _⟩ => rfl

theorem lt_of (x : EReal) (h : Ideal.cmp .olt (max x (-x)) (Ideal.ofBits .f32 0x7F800000#32) = 1#1) : max x (-x) < ⊤ := by
  rw [ofBits_inf] at h
  by_contra n
  simp [Ideal.cmp, n] at h

instance : Subsingleton Cert.Pre_finite.S_.Idx := ⟨fun _ _ => funext fun a => a.elim0⟩

/-- Finite arguments are arrays of real numbers. -/
theorem finite_args (x0 : (⟨2, ![4096, 5760]⟩ : Shape).Idx → EReal) (x1 : (⟨2, ![4096, 8]⟩ : Shape).Idx → EReal) (x2 : (⟨2, ![4096, 2048]⟩ : Shape).Idx → EReal)
    (h : Cert.Pre_finite.fn (F := Ideal) x0 x1 x2 = fun _ => 1#1) :
    (∃ P, x0 = up2 4096 5760 P) ∧ (∃ C, x1 = up2 4096 8 C) ∧ ∃ D, x2 = up2 4096 2048 D := by
  have h := congrFun h ix0
  dsimp only [Cert.Pre_finite.fn] at h
  obtain ⟨h, h2⟩ := IntOp.andi_eq_one.1 h
  obtain ⟨h0, h1⟩ := IntOp.andi_eq_one.1 h
  exact ⟨exists_up2 _ _ _ fun i => lt_of _ (Host.reduce_andi_all _ _ _ _ ix0 h0 i), exists_up2 _ _ _ fun i => lt_of _ (Host.reduce_andi_all _ _ _ _ ix0 h1 i),
    exists_up2 _ _ _ fun i => lt_of _ (Host.reduce_andi_all _ _ _ _ ix0 h2 i)⟩

section Launch

open Cert.KernelIdeal Cert.KernelIdeal.Gen

variable (m : (ℓ : Loc nD τ sig) → Buf (Elt Ideal) ℓ) (c : Dev nD) (P C D : ℕ → ℕ → ℝ)

/-- What the call finds in its arrays. -/
theorem entry_of (h0 : m ((c : Thread nD τ).loc main_arg0) = up2 4096 5760 P) (h1 : m ((c : Thread nD τ).loc main_arg1) = up2 4096 8 C)
    (h2 : m ((c : Thread nD τ).loc main_arg2) = up2 4096 2048 D) : Entry m c P D (outv P C) (lsev P C) (gatev C) where
  e0 := (V_main_arg0 m c).trans h0
  e2 := (V_main_arg2 m c).trans h2
  eo := (entry_out m c).trans ((congrArg₂ hOut h0 h1).trans (v_out P C))
  el := (entry_lse m c).trans ((congrArg₂ hLse h0 h1).trans (v_lse P C))
  ec := (entry_gate m c).trans ((congrArg hGate h1).trans (v_gate C))

end Launch

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (P C D : ℕ → ℕ → ℝ) (E : Entry m c P D (outv P C) (lsev P C) (gatev C))
  (k0 : m' ((c.tc : Thread Cert.ReferenceIdeal.nD Cert.ReferenceIdeal.τ).loc Cert.ReferenceIdeal.main_arg0) = up2 4096 5760 P)
  (k1 : m' ((c.tc : Thread Cert.ReferenceIdeal.nD Cert.ReferenceIdeal.τ).loc Cert.ReferenceIdeal.main_arg1) = up2 4096 8 C)
  (k2 : m' ((c.tc : Thread Cert.ReferenceIdeal.nD Cert.ReferenceIdeal.τ).loc Cert.ReferenceIdeal.main_arg2) = up2 4096 2048 D)

include E k0 k1 k2

theorem agree7 : Cert.ReferenceIdeal.Value.res_main_v91 m' c = (Cert.KernelIdeal.Gen.dats m 0 c).arrAt 7 Cert.KernelIdeal.cfg0.N := by
  rw [result7 m c P D _ _ _ E, Cert.ReferenceIdeal.Read.val_main_v91_eq, k0, k1, k2]
  exact (r_dq P C D).trans (same7 P C D).symm

theorem agree8 : Cert.ReferenceIdeal.Value.res_main_v92 m' c = (Cert.KernelIdeal.Gen.dats m 0 c).arrAt 8 Cert.KernelIdeal.cfg0.N := by
  rw [result8 m c P D _ _ _ E, Cert.ReferenceIdeal.Read.val_main_v92_eq, k0, k1, k2]
  exact (r_dk P C D).trans (same8 P C D).symm

theorem agree9 : Cert.ReferenceIdeal.Value.res_main_v93 m' c = (Cert.KernelIdeal.Gen.dats m 0 c).arrAt 9 Cert.KernelIdeal.cfg0.N := by
  rw [result9 m c P D _ _ _ E, Cert.ReferenceIdeal.Read.val_main_v93_eq, k0, k1, k2]
  exact (r_dv P C D).trans (same9 P C D).symm

theorem agree10 : Cert.ReferenceIdeal.Value.res_main_v95 m' c = (Cert.KernelIdeal.Gen.dats m 0 c).arrAt 10 Cert.KernelIdeal.cfg0.N := by
  rw [result10 m c P D _ _ _ E, Cert.ReferenceIdeal.Read.val_main_v95_eq, k0, k1, k2]
  refine (r_dck P C D).trans ?_
  funext j
  exact congrArg (fun x : ℝ => (x : EReal)) (same10 P C D _ _).symm

theorem agree11 : Cert.ReferenceIdeal.Value.res_main_v97 m' c = (Cert.KernelIdeal.Gen.dats m 0 c).arrAt 11 Cert.KernelIdeal.cfg0.N := by
  rw [result11 m c P D _ _ _ E, Cert.ReferenceIdeal.Read.val_main_v97_eq, k0, k1, k2]
  exact (r_dcq P C D).trans (same11 P C D).symm

end Agree

/-- The two programs end with the same five gradients. -/
theorem algebraic : Cert.algebraic_KernelIdeal_ReferenceIdeal := by
  intro m g m' g' hp hm
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨⟨P, h0⟩, ⟨C, h1⟩, ⟨D, h2⟩⟩ := finite_args _ _ _ (hp c)
  have E := entry_of m c P C D h0 h1 h2
  have k0 := (hm c).1.trans h0
  have k1 := (hm c).2.1.trans h1
  have k2 := (hm c).2.2.trans h2
  obtain ⟨a, b, d, e, f, rest⟩ := h c
  exact ⟨a.trans (agree7 m m' c P C D E k0 k1 k2), b.trans (agree8 m m' c P C D E k0 k1 k2), d.trans (agree9 m m' c P C D E k0 k1 k2),
    e.trans (agree10 m m' c P C D E k0 k1 k2), f.trans (agree11 m m' c P C D E k0 k1 k2), rest⟩

end Cert.Fox

end
-- ==== Proof.Mat.lean ====
/- Arrays of extended reals written as functions of natural-number indices, and sums over blocks of their rows. -/
module

public import Idealize.ShloMosaic.Lib.Pointwise
public import Idealize.ShloMosaic.Lib.IdealHost
public import Idealize.ShloMosaic.Lib.Pipeline.ValueKit
public import Idealize.ShloMosaic.Lib.Affine
public import Idealize.ShloMosaic.Lib.VecWindow

@[expose] public section

noncomputable section

namespace Cert.Ffn

open Idealize.ShloMosaic Idealize.ShloMosaic.TcCoe
open scoped BigOperators

/-- The matrix with the entries `f row column`. -/
def mat (m n : ℕ) (f : ℕ → ℕ → EReal) : (⟨2, ![m, n]⟩ : Shape).Idx → EReal := fun j => f (j 0).val (j 1).val

/-- The array of rank one with the entries `f a`. -/
def row (n : ℕ) (f : ℕ → EReal) : (⟨1, ![n]⟩ : Shape).Idx → EReal := fun j => f (j 0).val

/-- The array of rank three with the entries `f a b c`. -/
def cube (l m n : ℕ) (f : ℕ → ℕ → ℕ → EReal) : (⟨3, ![l, m, n]⟩ : Shape).Idx → EReal := fun j => f (j 0).val (j 1).val (j 2).val

/-- The array of rank four with the entries `f a b c d`. -/
def four (k l m n : ℕ) (f : ℕ → ℕ → ℕ → ℕ → EReal) : (⟨4, ![k, l, m, n]⟩ : Shape).Idx → EReal :=
  fun j => f (j 0).val (j 1).val (j 2).val (j 3).val

theorem mat_at (m n : ℕ) (f : ℕ → ℕ → EReal) (j : (⟨2, ![m, n]⟩ : Shape).Idx) : mat m n f j = f (j 0).val (j 1).val := rfl

theorem cube_at (l m n : ℕ) (f : ℕ → ℕ → ℕ → EReal) (j : (⟨3, ![l, m, n]⟩ : Shape).Idx) : cube l m n f j = f (j 0).val (j 1).val (j 2).val := rfl

theorem four_at (k l m n : ℕ) (f : ℕ → ℕ → ℕ → ℕ → EReal) (j : (⟨4, ![k, l, m, n]⟩ : Shape).Idx) :
    four k l m n f j = f (j 0).val (j 1).val (j 2).val (j 3).val := rfl

/-- Every array of rank one is one of this kind. -/
theorem exists_row (n : ℕ) (x : (⟨1, ![n]⟩ : Shape).Idx → EReal) : ∃ f, x = row n f := by
  refine ⟨fun a => if q : a < n then x (ix1 ⟨a, q⟩) else 0, ?_⟩
  funext j
  show x j = dite _ _ _
  rw [dif_pos (show (j 0).val < n from (j 0).isLt)]
  refine congrArg x (funext fun a => ?_)
  match a with
  | ⟨0, _⟩ => rfl

/-- Every matrix is one of this kind. -/
theorem exists_mat (m n : ℕ) (x : (⟨2, ![m, n]⟩ : Shape).Idx → EReal) : ∃ f, x = mat m n f := by
  refine ⟨fun a b => if q : a < m ∧ b < n then x (ix2 ⟨a, q.1⟩ ⟨b, q.2⟩) else 0, ?_⟩
  funext j
  rw [mat_at, dif_pos ⟨(j 0).isLt, (j 1).isLt⟩]
  refine congrArg x (funext fun a => ?_)
  match a with
  | ⟨0, _⟩ => rfl
  | ⟨1, _⟩ => rfl

/-- Every array of rank four is one of this kind. -/
theorem exists_four (k l m n : ℕ) (x : (⟨4, ![k, l, m, n]⟩ : Shape).Idx → EReal) : ∃ f, x = four k l m n f := by
  refine ⟨fun a b c d => if q : (a < k ∧ b < l) ∧ (c < m ∧ d < n) then x (ix4 ⟨a, q.1.1⟩ ⟨b, q.1.2⟩ ⟨c, q.2.1⟩ ⟨d, q.2.2⟩) else 0, ?_⟩
  funext j
  rw [four_at, dif_pos ⟨⟨(j 0).isLt, (j 1).isLt⟩, (j 2).isLt, (j 3).isLt⟩]
  refine congrArg x (funext fun a => ?_)
  match a with
  | ⟨0, _⟩ => rfl
  | ⟨1, _⟩ => rfl
  | ⟨2, _⟩ => rfl
  | ⟨3, _⟩ => rfl

/-- The product of a row and a column of `K` entries. -/
def dot (K : ℕ) (f g : ℕ → EReal) : EReal := ∑ k : Fin K, f k.val * g k.val

/-- The sum over the next block of `b` indices extends the sum over the blocks before it. -/
theorem sum_block (b : ℕ) (f : ℕ → EReal) (n : ℕ) :
    ∑ t ∈ Finset.range (b * (n + 1)), f t = ∑ t ∈ Finset.range (b * n), f t + ∑ r : Fin b, f (b * n + r.val) := by
  rw [Nat.mul_succ, Finset.sum_range_add, Fin.sum_univ_eq_sum_range (fun r => f (b * n + r)) b]

/-- The product of the first `n` entries of a row and a column. -/
def part (n : ℕ) (f g : ℕ → EReal) : EReal := ∑ s ∈ Finset.range n, f s * g s

theorem part_zero (b : ℕ) (f g : ℕ → EReal) : part (b * 0) f g = 0 := by
  unfold part
  rw [Nat.mul_zero, Finset.range_zero, Finset.sum_empty]

theorem part_succ (b n : ℕ) (f g : ℕ → EReal) :
    part (b * (n + 1)) f g = part (b * n) f g + dot b (fun s => f (b * n + s)) (fun s => g (b * n + s)) := sum_block b (fun s => f s * g s) n

theorem part_eq_dot (n : ℕ) (f g : ℕ → EReal) : part n f g = dot n f g := (Fin.sum_univ_eq_sum_range (fun s => f s * g s) n).symm

/-- The layout of the output weights after the exchange: for each block the eight devices' shards of 704 rows, one below the other. -/
theorem layout_out (W : ℕ → ℕ → ℕ → ℕ → EReal) (a : (⟨4, ![4, 2, 2816, 1024]⟩ : Shape).ShapeCasts ⟨4, ![8, 4, 704, 1024]⟩)
    (b : (⟨4, ![8, 4, 704, 1024]⟩ : Shape).Transposes [1, 0, 2, 3] ⟨4, ![4, 8, 704, 1024]⟩)
    (e : (⟨4, ![4, 8, 704, 1024]⟩ : Shape).ShapeCasts ⟨3, ![4, 5632, 1024]⟩) :
    shapeCast _ (transpose _ [1, 0, 2, 3] (shapeCast _ (four 4 2 2816 1024 W) a) b) e
    = cube 4 5632 1024 fun d p k => W (p / 704 / 2) (p / 704 % 2) (704 * d + p % 704) k := by
  funext j
  idx_bounds j
  rw [cube_at]
  refine (shapeCast_apply _ e j (ix4 (n0 := 4) (n1 := 8) (n2 := 704) (n3 := 1024) ⟨(j 0).val, hb0⟩ ⟨(j 1).val / 704, by omega⟩
      ⟨(j 1).val % 704, by omega⟩ ⟨(j 2).val, hb2⟩) (by
    rw [Shape.rowMajor_val_four, Shape.rowMajor_val_three]
    show (((j 0).val * 8 + (j 1).val / 704) * 704 + (j 1).val % 704) * 1024 + (j 2).val = ((j 0).val * 5632 + (j 1).val) * 1024 + (j 2).val
    omega)).trans ?_
  refine (transpose_apply _ _ b _ (ix4 (n0 := 8) (n1 := 4) (n2 := 704) (n3 := 1024) ⟨(j 1).val / 704, by omega⟩ ⟨(j 0).val, hb0⟩
      ⟨(j 1).val % 704, by omega⟩ ⟨(j 2).val, hb2⟩)
    (fun b => match b with | ⟨0, _⟩ => rfl | ⟨1, _⟩ => rfl | ⟨2, _⟩ => rfl | ⟨3, _⟩ => rfl)).trans ?_
  refine (shapeCast_apply _ a _ (ix4 (n0 := 4) (n1 := 2) (n2 := 2816) (n3 := 1024) ⟨(j 1).val / 704 / 2, by omega⟩ ⟨(j 1).val / 704 % 2, by omega⟩
      ⟨704 * (j 0).val + (j 1).val % 704, by omega⟩ ⟨(j 2).val, hb2⟩) (by
    rw [Shape.rowMajor_val_four, Shape.rowMajor_val_four]
    show (((j 1).val / 704 / 2 * 2 + (j 1).val / 704 % 2) * 2816 + (704 * (j 0).val + (j 1).val % 704)) * 1024 + (j 2).val
      = (((j 1).val / 704 * 4 + (j 0).val) * 704 + (j 1).val % 704) * 1024 + (j 2).val
    omega)).trans ?_
  rfl

/-- The layout of the input weights after the exchange: for each shard of 1408 columns the eight devices' blocks of 1024 rows, one below the other. -/
theorem layout_in (W : ℕ → ℕ → ℕ → ℕ → EReal) (a : (⟨4, ![4, 2, 1024, 5632]⟩ : Shape).ShapeCasts ⟨3, ![8192, 4, 1408]⟩)
    (b : (⟨3, ![8192, 4, 1408]⟩ : Shape).Transposes [1, 0, 2] ⟨3, ![4, 8192, 1408]⟩) :
    transpose _ [1, 0, 2] (shapeCast _ (four 4 2 1024 5632 W) a) b
    = cube 4 8192 1408 fun d p k => W (p / 1024 / 2) (p / 1024 % 2) (p % 1024) (1408 * d + k) := by
  funext j
  idx_bounds j
  rw [cube_at]
  refine (transpose_apply _ _ b _ (ix3 (n0 := 8192) (n1 := 4) (n2 := 1408) ⟨(j 1).val, hb1⟩ ⟨(j 0).val, hb0⟩ ⟨(j 2).val, hb2⟩)
    (fun b => match b with | ⟨0, _⟩ => rfl | ⟨1, _⟩ => rfl | ⟨2, _⟩ => rfl)).trans ?_
  refine (shapeCast_apply _ a _ (ix4 (n0 := 4) (n1 := 2) (n2 := 1024) (n3 := 5632) ⟨(j 1).val / 1024 / 2, by omega⟩ ⟨(j 1).val / 1024 % 2, by omega⟩
      ⟨(j 1).val % 1024, by omega⟩ ⟨1408 * (j 0).val + (j 2).val, by omega⟩) (by
    rw [Shape.rowMajor_val_four, Shape.rowMajor_val_three]
    show (((j 1).val / 1024 / 2 * 2 + (j 1).val / 1024 % 2) * 1024 + (j 1).val % 1024) * 5632 + (1408 * (j 0).val + (j 2).val)
      = ((j 1).val * 4 + (j 0).val) * 1408 + (j 2).val
    omega)).trans ?_
  rfl

end Cert.Ffn

end
-- ==== Proof.Da.lean ====
/- The gradient of the feed-forward layer's output product in its activations: the call's result is the product of the
   cotangent with the transposed weights. -/
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Da

open Cert.Kernel2Ideal Cert.Kernel2Ideal.Gen Cert.Ffn Idealize.ShloMosaic Idealize.ShloMosaic.TcCoe Idealize.SL.Sem
open scoped BigOperators

/-- One tile: rows of the cotangent against the two devices' rows of the weights, one below the other. -/
theorem tile (u v : ℕ → ℕ → ℕ → EReal) (g : ℕ → ℕ → EReal) :
    k0_pay1 (F := Ideal) (cube 1 704 1024 u) (cube 1 704 1024 v) (mat 512 1024 g)
    = mat 512 1408 fun r s => dot 1024 (g r) (if s < 704 then u 0 s else v 0 (s - 704)) := by
  funext j
  idx_bounds j
  pointwise [k0_pay1]
  simp only [mat_at, cube_at]
  refine Finset.sum_congr rfl fun k _ => ?_
  by_cases q : (j 1).val < 704
  · rw [dif_pos q, if_pos q]
    rfl
  · rw [dif_neg q, if_neg q]
    rfl

theorem idx0 : ∀ t : Fin cfg0.N, win0_0.index t = ![t.val % 8, 0] := (by decide +kernel : ∀ t : Fin grid0.N, _)
theorem idx1 : ∀ t : Fin cfg0.N, win0_1.index t = ![2 * (t.val / 8), 0, 0] := (by decide +kernel : ∀ t : Fin grid0.N, _)
theorem idx2 : ∀ t : Fin cfg0.N, win0_2.index t = ![2 * (t.val / 8) + 1, 0, 0] := (by decide +kernel : ∀ t : Fin grid0.N, _)
theorem idx3 : ∀ t : Fin cfg0.N, win0_3.index t = ![t.val % 8, t.val / 8] := (by decide +kernel : ∀ t : Fin grid0.N, _)

variable (m : (ℓ : Loc nD τ sig) → Buf (Elt Ideal) ℓ) (c : Dev nD) (W : ℕ → ℕ → ℕ → ℕ → EReal) (G : ℕ → ℕ → EReal)
  (h0 : m ((c : Thread nD τ).loc main_arg0) = four 4 2 2816 1024 W) (h1 : m ((c : Thread nD τ).loc main_arg1) = mat 4096 1024 G)

include h0 in
/-- The gathered weights. -/
theorem entry_w : V m c main_v3 = cube 4 5632 1024 fun d p k => W (p / 704 / 2) (p / 704 % 2) (704 * d + p % 704) k := by
  have e : V m c main_v3 = truncf (F := Ideal) (φ := .f32) .bf16 (shapeCast S4x5632x1024 (transpose S4x8x704x1024 [1, 0, 2, 3]
      (shapeCast S8x4x704x1024 (m ((c : Thread nD τ).loc main_arg0)) shapeCasts_S4x2x2816x1024_S8x4x704x1024) transposes_S8x4x704x1024_S4x8x704x1024_1_0_2_3)
      shapeCasts_S4x8x704x1024_S4x5632x1024) bitsLt_bf16_f32 := by
    unfold V
    simp only [hostOps0, List.flatten_cons, List.flatten_nil, List.append_nil, List.cons_append, List.nil_append]
    entry_read
    rfl
  rw [e, h0]
  exact layout_out W _ _ _

include h1 in
/-- The cotangent. -/
theorem entry_g : V m c main_arg1 = mat 4096 1024 G := by
  have e : V m c main_arg1 = m ((c : Thread nD τ).loc main_arg1) := by
    unfold V
    simp only [hostOps0, List.flatten_cons, List.flatten_nil, List.append_nil, List.cons_append, List.nil_append]
    entry_read
    rfl
  rw [e, h1]

include h1 in
theorem block0 (t : Fin cfg0.N) : iblk m c 0 t = mat 512 1024 fun r k => G (512 * (t.val % 8) + r) k := by
  funext y
  idx_bounds y
  blk_simp [iblk]
  rw [entry_g m c G h1]
  simp only [mat_at]
  blk_simp [idx0]
  congr 1 <;> omega

include h0 in
theorem block1 (t : Fin cfg0.N) : iblk m c 1 t = cube 1 704 1024 fun _ r k => W 0 0 (704 * (2 * (t.val / 8)) + r) k := by
  funext y
  idx_bounds y
  blk_simp [iblk]
  rw [entry_w m c W h0]
  simp only [cube_at]
  blk_simp [idx1]
  have a : (y 1).val / 704 = 0 := by omega
  have b : (y 1).val % 704 = (y 1).val := by omega
  rw [a, b]

include h0 in
theorem block2 (t : Fin cfg0.N) : iblk m c 2 t = cube 1 704 1024 fun _ r k => W 0 0 (704 * (2 * (t.val / 8) + 1) + r) k := by
  funext y
  idx_bounds y
  blk_simp [iblk]
  rw [entry_w m c W h0]
  simp only [cube_at]
  blk_simp [idx2]
  have a : (y 1).val / 704 = 0 := by omega
  have b : (y 1).val % 704 = (y 1).val := by omega
  rw [a, b]

omit m c W G h0 h1 in
theorem out_eq (x0 : Vec Ideal S512x1024 .bf16) (x1 x2 : Vec Ideal S1x704x1024 .bf16) : out0_3 x0 x1 x2 = k0_pay1 x1 x2 x0 := by
  unfold out0_3
  refine (View.canon_cons_unit_lit _ _ _ (by decide)).trans ?_
  rw [View.ld_unit_lit _ _ (by decide), View.ld_unit_lit _ _ (by decide), View.ld_unit_lit _ _ (by decide)]

include h0 h1 in
theorem result : (dats m 0 c).arrAt 3 cfg0.N = mat 4096 2816 fun r s => dot 1024 (G r) (W 0 0 s) := by
  refine (dats m 0 c).arrAt_eq_of_covers 3 _ (by decide +kernel) fun t hf y => ?_
  idx_bounds y
  blk_simp
  rw [after0_3, block0 m c G h1, block1 m c W h0, block2 m c W h0, out_eq, tile]
  simp only [mat_at]
  blk_simp [idx3]
  have a : t.val % 8 * 512 + (y 0).val = 512 * (t.val % 8) + (y 0).val := by omega
  by_cases q : (y 1).val < 704
  · have b : t.val / 8 * 1408 + (y 1).val = 704 * (2 * (t.val / 8)) + (y 1).val := by omega
    rw [if_pos q, a, b]
  · have b : t.val / 8 * 1408 + (y 1).val = 704 * (2 * (t.val / 8) + 1) + ((y 1).val - 704) := by omega
    rw [if_neg q, a, b]

open Cert.Reference2Ideal.Read in
theorem reference : val_main_v6 (F := Ideal) (four 4 2 2816 1024 W) (mat 4096 1024 G) = mat 4096 2816 fun r s => dot 1024 (G r) (W 0 0 s) := by
  funext i
  idx_bounds i
  rw [val_main_v6_apply]
  refine (val_main_v5_apply _ _ i).trans ?_
  rw [mat_at]
  refine Finset.sum_congr rfl fun k _ => ?_
  refine congrArg₂ (· * ·) rfl ?_
  rw [val_main_v2_apply, val_main_v1_apply, four_at]
  have hk := k.isLt
  show W 0 0 (((i 1).val * 1024 + k.val) / 1024 % 2816) (((i 1).val * 1024 + k.val) % 1024) = W 0 0 (i 1).val k.val
  congr 1 <;> omega

/-- The two programs end with the same gradient. -/
theorem algebraic : Cert.algebraic_Kernel2Ideal_Reference2Ideal := by
  intro m g m' g' hp hm
  refine ⟨fun c => (dats m 0 c).arrAt 3 cfg0.N, Cert.Kernel2Ideal.Value.run_blocks m g, ?_⟩
  refine (θ_run Cert.Reference2Ideal.defs _ _).mono (fun r h c => ?_) (Cert.Reference2Ideal.Value.run (F := Ideal) m' g')
  obtain ⟨W, h0⟩ := exists_four 4 2 2816 1024 (m ((c : Thread nD τ).loc main_arg0))
  obtain ⟨G, h1⟩ := exists_mat 4096 1024 (m ((c : Thread nD τ).loc main_arg1))
  have k0 := (hm c).1.trans h0
  have k1 := (hm c).2.trans h1
  obtain ⟨a, rest⟩ := h c
  refine ⟨a.trans ?_, rest⟩
  dsimp only
  rw [result m c W G h0 h1, Cert.Reference2Ideal.Read.val_main_v6_eq, k0, k1]
  exact reference W G

/-- The printed program and the one read over the extended reals have the same bodies. -/
theorem defs_eq : Cert.Kernel2.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel2 := fun m ρ _ => by
  rw [defs_eq]
  exact frame (F := Bits) m ρ

theorem frame_ideal : Cert.quiescent_Kernel2Ideal := fun m ρ _ => Cert.Kernel2Ideal.Gen.frame m ρ

theorem frame_reference : Cert.quiescent_Reference2Ideal :=
  fun m ρ _ => (θ_run Cert.Reference2Ideal.defs _ _).mono
    (fun r h => ⟨fun c => (h c).2, sem_eq_zero_of_no_sems (by decide) r.2⟩)
    (Cert.Reference2Ideal.Value.run (F := Ideal) m ρ)

end Cert.Ffn.Da

end
-- ==== Proof.Dwout.lean ====
/- The gradient of the feed-forward layer's output product in its weights: the call's result is, shard by shard of the rows,
   the product of the transposed activation with the cotangent. -/
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Dwout

open Cert.Kernel3Ideal Cert.Kernel3Ideal.Gen Cert.Ffn Idealize.ShloMosaic Idealize.ShloMosaic.TcCoe Idealize.SL.Sem
open scoped BigOperators

/-- One tile: the columns of the activation against the columns of the cotangent, over one block of rows. -/
theorem tile (a b : ℕ → ℕ → EReal) :
    k0_pay1 (F := Ideal) (mat 1024 1408 a) (mat 1024 1024 b) = mat 1408 1024 fun r x => dot 1024 (fun s => a s r) (fun s => b s x) := by
  funext j
  idx_bounds j
  pointwise [k0_pay1]
  simp only [mat_at]
  refine Finset.sum_congr rfl fun k _ => ?_
  rfl

theorem first (a b : ℕ → ℕ → EReal) :
    k0_pay2 (F := Ideal) (mat 1024 1408 a) (mat 1024 1024 b) = mat 1408 1024 fun r x => dot 1024 (fun s => a s r) (fun s => b s x) := by
  rw [← tile]
  unfold k0_pay2
  dsimp only
  exact Idealize.ShloMosaic.shapeCast_self _ _

theorem next (a b f : ℕ → ℕ → EReal) :
    k0_pay3 (F := Ideal) (mat 1024 1408 a) (mat 1024 1024 b) (mat 1408 1024 f)
    = mat 1408 1024 fun r x => f r x + dot 1024 (fun s => a s r) (fun s => b s x) := by
  have e : k0_pay3 (F := Ideal) (mat 1024 1408 a) (mat 1024 1024 b) (mat 1408 1024 f)
      = addf (F := Ideal) (φ := .f32) (mat 1408 1024 f) (k0_pay1 (F := Ideal) (mat 1024 1408 a) (mat 1024 1024 b)) := by
    unfold k0_pay3
    dsimp only
    exact Idealize.ShloMosaic.shapeCast_self _ _
  rw [e, tile]
  rfl

theorem last_upper (f : ℕ → ℕ → EReal) : k0_pay4 (F := Ideal) (mat 704 1024 f) = cube 1 704 1024 fun _ r x => f r x := by
  funext j
  idx_bounds j
  pointwise [k0_pay4]
  rfl

theorem last_lower (f : ℕ → ℕ → EReal) : k0_pay5 (F := Ideal) (mat 704 1024 f) = cube 1 704 1024 fun _ r x => f r x :=
  last_upper f

/-- Rows of a table, from row `o` on. -/
theorem rows (o : ℕ) (f : ℕ → ℕ → EReal) (inb : ∀ a, (![o, 0] : Fin 2 → ℕ) a + S704x1024.size a ≤ S1408x1024.size a) :
    VecWindow.window (s := S1408x1024) (mat 1408 1024 f) ![o, 0] S704x1024.size inb = mat 704 1024 fun r x => f (o + r) x := by
  funext y
  show f (o + 1 * (y 0).val) (0 + 1 * (y 1).val) = f (o + (y 0).val) (y 1).val
  congr 1 <;> omega

section Cases

variable (c : Dev nD) (i : grid0.Coords) (arg2 : Memref sig .tc .vmem S1024x1408 .bf16) (harg2 : arg2.IsWhole) (arg3 : Memref sig .tc .vmem S1024x1024 .bf16) (harg3 : arg3.IsWhole)
  (arg4 : Memref sig .tc .vmem S2x704x1024 .bf16) (harg4 : arg4.IsWhole) (arg5 : Memref sig .tc .vmem S1408x1024 .f32) (harg5 : arg5.IsWhole)
  (x0 : Vec Ideal S1024x1408 .bf16) (x1 : Vec Ideal S1024x1024 .bf16) (xs0 : Vec Ideal S1408x1024 .f32)

theorem scratch_A (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0 kernelRun0_A
  dsimp only
  refine (View.read_writes_full ..).trans ?_
  rw [View.readAt_full, View.readAt_full, harg2.read_unread, harg3.read_unread]

theorem scratch_B (hc0 : ¬cond0_0 i) (hc1 : cond0_1 i) (hc2 : ¬cond0_2 i) :
    sout0_B_0 c i arg2 harg2 arg3 harg3 arg4 harg4 arg5 harg5 hc0 hc1 hc2 x0 x1 xs0 = k0_pay3 x0 x1 xs0 := by
  unfold sout0_B_0 kernelRun0_B
  dsimp only
  refine (View.read_writes_full ..).trans ?_
  rw [View.readAt_full, View.readAt_full, View.readAt_full, harg2.read_unread, harg3.read_unread, harg5.read_unread]

theorem scratch_C (hc0 : ¬cond0_0 i) (hc1 : cond0_1 i) (hc2 : cond0_2 i) :
    sout0_C_0 c i arg2 harg2 arg3 harg3 arg4 harg4 arg5 harg5 hc0 hc1 hc2 x0 x1 xs0 = k0_pay3 x0 x1 xs0 := by
  unfold sout0_C_0 kernelRun0_C
  dsimp only
  refine (View.read_writes_full ..).trans ?_
  rw [View.readAt_full, View.readAt_full, View.readAt_full, harg2.read_unread, harg3.read_unread, harg5.read_unread]

theorem out_C (hc0 : ¬cond0_0 i) (hc1 : cond0_1 i) (hc2 : cond0_2 i) (f : ℕ → ℕ → EReal) (e : k0_pay3 x0 x1 xs0 = mat 1408 1024 f) :
    out0_C_2 c i arg2 harg2 arg3 harg3 arg4 harg4 arg5 harg5 hc0 hc1 hc2 x0 x1 xs0 = cube 2 704 1024 fun p r x => f (704 * p + r) x := by
  unfold out0_C_2 kernelRun0_C
  dsimp only
  have load : ∀ (o : ℕ) (inb : ∀ a, (![o, 0] : Fin 2 → ℕ) a + S704x1024.size a ≤ S1408x1024.size a),
      arg5.view.readCov (kernelRun0_C.sl.HS0_1 c arg2 harg2 arg3 harg3 arg5 harg5 x0 x1 xs0)
        (Rect.unit (s := S1408x1024) ![o, 0] S704x1024.size inb).toLoadRect = mat 704 1024 fun r x => f (o + r) x := fun o inb => by
    unfold kernelRun0_C.sl.HS0_1
    refine (View.readAt_unit arg5.view _ inb rfl inb).trans ?_
    rw [View.read_writes_full, View.readAt_full, View.readAt_full, View.readAt_full, harg2.read_unread, harg3.read_unread, harg5.read_unread, e]
    exact rows o f inb
  unfold kernelRun0_C.sl.v12 kernelRun0_C.sl.v17
  rw [load, load, last_upper, last_lower]
  funext y
  idx_bounds y
  by_cases q : (y 0).val = 1
  · refine (View.read_writes_cons_unit_of_mem _ _ _ _ _ y (ix3 (0 : Fin 1) (y 1) (y 2)) rfl ?_).trans ?_
    · intro a
      fin_cases a
      · show (y 0).val = 1 + 0
        omega
      · show (y 1).val = 0 + (y 1).val
        omega
      · show (y 2).val = 0 + (y 2).val
        omega
    · show f (704 + (y 1).val) (y 2).val = f (704 * (y 0).val + (y 1).val) (y 2).val
      rw [q]
  · refine (View.read_writes_cons_unit_of_not_mem _ _ _ _ _ y rfl 0 (Or.inl ?_)).trans ?_
    · show (y 0).val < 1
      omega
    · refine (View.read_writes_cons_unit_of_mem _ _ _ _ _ y (ix3 (0 : Fin 1) (y 1) (y 2)) rfl ?_).trans ?_
      · intro a
        fin_cases a
        · show (y 0).val = 0 + 0
          omega
        · show (y 1).val = 0 + (y 1).val
          omega
        · show (y 2).val = 0 + (y 2).val
          omega
      · show f (0 + (y 1).val) (y 2).val = f (704 * (y 0).val + (y 1).val) (y 2).val
        congr 1
        omega

end Cases

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0, 0] := (by decide +kernel : ∀ t : Fin grid0.N, _)

variable (m : (ℓ : Loc nD τ sig) → Buf (Elt Ideal) ℓ) (c : Dev nD) (A B : ℕ → ℕ → EReal)
  (h0 : m ((c : Thread nD τ).loc main_arg0) = mat 4096 2816 A) (h1 : m ((c : Thread nD τ).loc main_arg1) = mat 4096 1024 B)

include h0 in
theorem block0 (t : Fin cfg0.N) : iblk m c 0 t = mat 1024 1408 fun s r => A (1024 * (t.val % 4) + s) (1408 * (t.val / 4) + r) := by
  funext y
  idx_bounds y
  blk_simp [iblk]
  rw [V_main_arg0 m c, h0]
  simp only [mat_at]
  blk_simp [idx0]
  congr 1 <;> omega

include h1 in
theorem block1 (t : Fin cfg0.N) : iblk m c 1 t = mat 1024 1024 fun s x => B (1024 * (t.val % 4) + s) x := by
  funext y
  idx_bounds y
  blk_simp [iblk]
  rw [V_main_arg1 m c, h1]
  simp only [mat_at]
  blk_simp [idx1]
  congr 1 <;> omega

/-- What the scratch holds after grid point `n`. -/
abbrev held (n : ℕ) : (⟨2, ![1408, 1024]⟩ : Shape).Idx → EReal :=
  mat 1408 1024 fun r x => part (1024 * (n % 4 + 1)) (fun s => A s (1408 * (n / 4) + r)) (fun s => B s x)

include h0 h1 in
theorem state_at (t : Fin cfg0.N) (ih : t.val % 4 ≠ 0 → (outsAt0 m c (t.val - 1) (Nat.lt_of_le_of_lt (Nat.sub_le _ _) t.isLt)).2 = held A B (t.val - 1)) :
    (outsAt0 m c t.val t.isLt).2 = held A B t.val := by
  by_cases q : t.val % 4 = 0
  · rw [outsAt0_A m c t q (by omega) (by omega)]
    dsimp only
    rw [scratch_A, block0 m c A h0, block1 m c B h1, first]
    unfold held
    congr 1
    funext r x
    rw [part_succ, q, part_zero, zero_add]
  · have e : t.val % 4 = (t.val - 1) % 4 + 1 := by omega
    have f : (t.val - 1) / 4 = t.val / 4 := by omega
    have key : k0_pay3 (F := Ideal) (iblk m c 0 t) (iblk m c 1 t) (held A B (t.val - 1)) = held A B t.val := by
      rw [block0 m c A h0, block1 m c B h1, next]
      unfold held
      congr 1
      funext r x
      rw [f, ← e]
      exact (part_succ 1024 _ _ _).symm
    by_cases p : t.val % 4 = 3
    · rw [outsAt0_C m c t q (by omega) p]
      dsimp only
      rw [scratch_C, ih q, key]
    · rw [outsAt0_B m c t q (by omega) p]
      dsimp only
      rw [scratch_B, ih q, key]

include h0 h1 in
theorem state (n : ℕ) (hn : n < cfg0.N) : (outsAt0 m c n hn).2 = held A B n := by
  induction n with
  | zero => exact state_at m c A B h0 h1 ⟨0, hn⟩ fun q => absurd rfl q
  | succ n ih => exact state_at m c A B h0 h1 ⟨n + 1, hn⟩ fun _ => ih _

include h0 h1 in
theorem written (t : Fin cfg0.N) (q : t.val % 4 = 3) :
    (outsAt0 m c t.val t.isLt).1 = cube 2 704 1024 fun p r x => dot 4096 (fun s => A s (1408 * (t.val / 4) + (704 * p + r))) (fun s => B s x) := by
  have s := state m c A B h0 h1 t.val t.isLt
  rw [outsAt0_C m c t (by omega) (by omega) q] at s ⊢
  dsimp only at s ⊢
  rw [scratch_C] at s
  rw [out_C _ _ _ _ _ _ _ _ _ _ _ _ _ _ _ _ _ s]
  congr 1
  funext p r x
  rw [q, part_eq_dot]

include h0 h1 in
theorem result : (dats m 0 c).arrAt 2 cfg0.N = cube 4 704 1024 fun d r x => dot 4096 (fun s => A s (704 * d + r)) (fun s => B s x) := by
  refine (dats m 0 c).arrAt_eq_of_covers 2 _ (by decide +kernel) fun t hf y => ?_
  idx_bounds y
  blk_simp
  rw [after0_2, written m c A B h0 h1 t ((flush0_2 t).mp hf)]
  simp only [cube_at]
  blk_simp [idx2]
  congr 1
  funext s
  congr 1
  omega

open Cert.Reference3Ideal.Read in
theorem reference : val_main_v7 (F := Ideal) (mat 4096 2816 A) (mat 4096 1024 B)
    = cube 4 704 1024 fun d r x => dot 4096 (fun s => A s (704 * d + r)) (fun s => B s x) := by
  funext i
  idx_bounds i
  rw [val_main_v7_apply]
  refine (val_main_v7_apply _ _ i).trans ?_
  rw [val_main_v6_apply, val_main_v5_apply, val_main_v4_apply, cube_at]
  refine Finset.sum_congr rfl fun k _ => ?_
  refine (mul_comm _ _).trans (congrArg₂ (· * ·) ?_ ?_)
  · show A k.val ((((i 0).val * 704 + (i 1).val) * 1024 + (i 2).val) / 1024) = A k.val (704 * (i 0).val + (i 1).val)
    congr 1
    omega
  · show B k.val ((((i 0).val * 704 + (i 1).val) * 1024 + (i 2).val) % 1024) = B k.val (i 2).val
    congr 1
    omega

/-- The two programs end with the same gradient. -/
theorem algebraic : Cert.algebraic_Kernel3Ideal_Reference3Ideal := by
  intro m g m' g' hp hm
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run (F := Ideal) m' g')
  obtain ⟨A, h0⟩ := exists_mat 4096 2816 (m ((c : Thread nD τ).loc main_arg0))
  obtain ⟨B, h1⟩ := exists_mat 4096 1024 (m ((c : Thread nD τ).loc main_arg1))
  have k0 := (hm c).1.trans h0
  have k1 := (hm c).2.trans h1
  obtain ⟨a, rest⟩ := h c
  refine ⟨a.trans ?_, rest⟩
  dsimp only
  rw [result m c A B h0 h1, Cert.Reference3Ideal.Read.val_main_v7_eq, k0, k1]
  exact reference A B

/-- The printed program and the one read over the extended reals have the same bodies. -/
theorem defs_eq : Cert.Kernel3.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel3 := fun m ρ _ => by
  rw [defs_eq]
  exact frame (F := Bits) m ρ

theorem frame_ideal : Cert.quiescent_Kernel3Ideal := fun m ρ _ => frame m ρ

theorem frame_reference : Cert.quiescent_Reference3Ideal :=
  fun m ρ _ => (θ_run Cert.Reference3Ideal.defs _ _).mono
    (fun r h => ⟨fun c => (h c).2, sem_eq_zero_of_no_sems (by decide) r.2⟩)
    (Cert.Reference3Ideal.Value.run (F := Ideal) m ρ)

end Cert.Ffn.Dwout

end
-- ==== Proof.Dn.lean ====
/- The gradient of the feed-forward layer's input: the call's result is the product of the cotangent with the transposed
   gathered input weights, summed over the two halves of the columns. -/
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Dn

open Cert.Kernel5Ideal Cert.Kernel5Ideal.Gen Cert.Ffn Idealize.ShloMosaic Idealize.ShloMosaic.TcCoe Idealize.SL.Sem
open scoped BigOperators

/-- One tile: the two halves of a block of the cotangent's columns against the two devices' columns of the weights. -/
theorem tile (g : ℕ → ℕ → EReal) (u v : ℕ → ℕ → ℕ → EReal) :
    k0_pay1 (F := Ideal) (mat 512 2816 g) (cube 1 1024 1408 u) (cube 1 1024 1408 v)
    = mat 512 1024 fun r k => dot 1408 (g r) (u 0 k) + dot 1408 (fun s => g r (1408 + s)) (v 0 k) := by
  funext j
  idx_bounds j
  pointwise [k0_pay1]
  simp only [mat_at, cube_at]
  refine congrArg₂ (· + ·) (Finset.sum_congr rfl fun k _ => ?_) (Finset.sum_congr rfl fun k _ => ?_)
  · refine congrArg₂ (· * ·) ?_ rfl
    congr 1 <;> omega
  · refine congrArg₂ (· * ·) ?_ rfl
    congr 1 <;> omega

theorem first (x0 : Vec Ideal S512x2816 .bf16) (x1 x2 : Vec Ideal S1x1024x1408 .bf16) :
    k0_pay2 (F := Ideal) x0 x1 x2 = k0_pay1 (F := Ideal) x0 x1 x2 := by
  unfold k0_pay2
  dsimp only
  exact Idealize.ShloMosaic.shapeCast_self _ _

theorem next (x0 : Vec Ideal S512x2816 .bf16) (x1 x2 : Vec Ideal S1x1024x1408 .bf16) (y : Vec Ideal S512x1024 .f32) :
    k0_pay3 (F := Ideal) x0 x1 x2 y = addf (F := Ideal) (φ := .f32) y (k0_pay1 (F := Ideal) x0 x1 x2) := rfl

section Cases

variable (c : Dev nD) (i : grid0.Coords) (arg2 : Memref sig .tc .vmem S512x2816 .bf16) (harg2 : arg2.IsWhole) (arg3 : Memref sig .tc .vmem S1x1024x1408 .bf16) (harg3 : arg3.IsWhole)
  (arg4 : Memref sig .tc .vmem S1x1024x1408 .bf16) (harg4 : arg4.IsWhole) (arg5 : Memref sig .tc .vmem S512x1024 .f32) (harg5 : arg5.IsWhole) (arg6 : Memref sig .tc .vmem S512x1024 .f32) (harg6 : arg6.IsWhole)
  (x0 : Vec Ideal S512x2816 .bf16) (x1 x2 : Vec Ideal S1x1024x1408 .bf16) (xs0 : Vec Ideal S512x1024 .f32)

theorem scratch_A (hc0 : cond0_0 i) (hc1 : ¬cond0_1 i) :
    sout0_A_0 c i arg2 harg2 arg3 harg3 arg4 harg4 arg5 harg5 arg6 harg6 hc0 hc1 x0 x1 x2 = k0_pay1 x0 x1 x2 := by
  unfold sout0_A_0 kernelRun0_A
  dsimp only
  refine (View.read_writes_full ..).trans ?_
  rw [View.readAt_full, View.readAt_full, View.readAt_full, harg2.read_unread, harg3.read_unread, harg4.read_unread]
  exact first x0 x1 x2

theorem out_B (hc0 : ¬cond0_0 i) (hc1 : cond0_1 i) :
    out0_B_3 c i arg2 harg2 arg3 harg3 arg4 harg4 arg5 harg5 arg6 harg6 hc0 hc1 x0 x1 x2 xs0 = k0_pay3 x0 x1 x2 xs0 := by
  unfold out0_B_3 kernelRun0_B
  dsimp only
  refine (View.read_writes_full ..).trans ?_
  rw [View.readAt_full, View.readAt_full, View.readAt_full, View.readAt_full, harg2.read_unread, harg3.read_unread, harg4.read_unread, harg6.read_unread]

end Cases

theorem idx0 : ∀ t : Fin cfg0.N, win0_0.index t = ![t.val / 2, t.val % 2] := (by decide +kernel : ∀ t : Fin grid0.N, _)
theorem idx1 : ∀ t : Fin cfg0.N, win0_1.index t = ![2 * (t.val % 2), 0, 0] := (by decide +kernel : ∀ t : Fin grid0.N, _)
theorem idx2 : ∀ t : Fin cfg0.N, win0_2.index t = ![2 * (t.val % 2) + 1, 0, 0] := (by decide +kernel : ∀ t : Fin grid0.N, _)
theorem idx3 : ∀ t : Fin cfg0.N, win0_3.index t = ![t.val / 2, 0] := (by decide +kernel : ∀ t : Fin grid0.N, _)

variable (m : (ℓ : Loc nD τ sig) → Buf (Elt Ideal) ℓ) (c : Dev nD) (W : ℕ → ℕ → ℕ → ℕ → EReal) (G : ℕ → ℕ → EReal)
  (h0 : m ((c : Thread nD τ).loc main_arg0) = four 4 2 1024 5632 W) (h1 : m ((c : Thread nD τ).loc main_arg1) = mat 4096 5632 G)

include h0 in
/-- The gathered weights. -/
theorem entry_w : V m c main_v2 = cube 4 8192 1408 fun d p k => W (p / 1024 / 2) (p / 1024 % 2) (p % 1024) (1408 * d + k) := by
  have e : V m c main_v2 = truncf (F := Ideal) (φ := .f32) .bf16 (transpose S4x8192x1408 [1, 0, 2]
      (shapeCast S8192x4x1408 (m ((c : Thread nD τ).loc main_arg0)) shapeCasts_S4x2x1024x5632_S8192x4x1408) transposes_S8192x4x1408_S4x8192x1408_1_0_2)
      bitsLt_bf16_f32 := by
    unfold V
    simp only [hostOps0, List.flatten_cons, List.flatten_nil, List.append_nil, List.cons_append, List.nil_append]
    entry_read
    rfl
  rw [e, h0]
  exact layout_in W _ _

include h1 in
/-- The cotangent. -/
theorem entry_g : V m c main_arg1 = mat 4096 5632 G := by
  have e : V m c main_arg1 = m ((c : Thread nD τ).loc main_arg1) := by
    unfold V
    simp only [hostOps0, List.flatten_cons, List.flatten_nil, List.append_nil, List.cons_append, List.nil_append]
    entry_read
    rfl
  rw [e, h1]

include h1 in
theorem block0 (t : Fin cfg0.N) : iblk m c 0 t = mat 512 2816 fun r s => G (512 * (t.val / 2) + r) (1408 * (2 * (t.val % 2)) + s) := by
  funext y
  idx_bounds y
  blk_simp [iblk]
  rw [entry_g m c G h1]
  simp only [mat_at]
  blk_simp [idx0]
  congr 1 <;> omega

include h0 in
theorem block1 (t : Fin cfg0.N) : iblk m c 1 t = cube 1 1024 1408 fun _ k s => W 0 0 k (1408 * (2 * (t.val % 2)) + s) := by
  funext y
  idx_bounds y
  blk_simp [iblk]
  rw [entry_w m c W h0]
  simp only [cube_at]
  blk_simp [idx1]
  have a : (y 1).val / 1024 = 0 := by omega
  have b : (y 1).val % 1024 = (y 1).val := by omega
  rw [a, b]

include h0 in
theorem block2 (t : Fin cfg0.N) : iblk m c 2 t = cube 1 1024 1408 fun _ k s => W 0 0 k (1408 * (2 * (t.val % 2) + 1) + s) := by
  funext y
  idx_bounds y
  blk_simp [iblk]
  rw [entry_w m c W h0]
  simp only [cube_at]
  blk_simp [idx2]
  have a : (y 1).val / 1024 = 0 := by omega
  have b : (y 1).val % 1024 = (y 1).val := by omega
  rw [a, b]

include h0 h1 in
/-- The tile of a grid point extends the sum over the columns before it. -/
theorem tile_at (t : Fin cfg0.N) : k0_pay1 (F := Ideal) (iblk m c 0 t) (iblk m c 1 t) (iblk m c 2 t)
    = mat 512 1024 fun r k => dot 1408 (fun s => G (512 * (t.val / 2) + r) (1408 * (2 * (t.val % 2)) + s)) (fun s => W 0 0 k (1408 * (2 * (t.val % 2)) + s))
        + dot 1408 (fun s => G (512 * (t.val / 2) + r) (1408 * (2 * (t.val % 2) + 1) + s)) (fun s => W 0 0 k (1408 * (2 * (t.val % 2) + 1) + s)) := by
  rw [block0 m c G h1, block1 m c W h0, block2 m c W h0, tile]
  refine congrArg (mat 512 1024) (funext fun r => funext fun k => ?_)
  have e : (fun s => G (512 * (t.val / 2) + r) (1408 * (2 * (t.val % 2)) + (1408 + s))) = fun s => G (512 * (t.val / 2) + r) (1408 * (2 * (t.val % 2) + 1) + s) := by
    funext s
    congr 1
    omega
  rw [e]

include h0 h1 in
theorem state (t : Fin cfg0.N) (q : t.val % 2 = 0) :
    (outsAt0 m c t.val t.isLt).2 = mat 512 1024 fun r k => part (1408 * 2) (G (512 * (t.val / 2) + r)) (W 0 0 k) := by
  rw [outsAt0_A m c t q (by omega)]
  dsimp only
  rw [scratch_A, tile_at m c W G h0 h1]
  congr 1
  funext r k
  rw [q, part_succ 1408 1, part_succ 1408 0, part_zero, zero_add]

include h0 h1 in
theorem written (t : Fin cfg0.N) (q : t.val % 2 = 1) :
    (outsAt0 m c t.val t.isLt).1 = mat 512 1024 fun r k => dot 5632 (G (512 * (t.val / 2) + r)) (W 0 0 k) := by
  have s := state m c W G h0 h1 ⟨t.val - 1, Nat.lt_of_le_of_lt (Nat.sub_le _ _) t.isLt⟩ (by show (t.val - 1) % 2 = 0; omega)
  have f : (t.val - 1) / 2 = t.val / 2 := by omega
  dsimp only at s
  rw [f] at s
  rw [outsAt0_B m c t (by omega) q]
  dsimp only
  rw [out_B, s, next, tile_at m c W G h0 h1]
  funext y
  show part (1408 * 2) (G (512 * (t.val / 2) + (y 0).val)) (W 0 0 (y 1).val) + _ = dot 5632 (G (512 * (t.val / 2) + (y 0).val)) (W 0 0 (y 1).val)
  rw [mat_at, q, ← add_assoc, ← part_eq_dot]
  exact ((part_succ 1408 3 _ _).trans (congrArg (· + _) (part_succ 1408 2 _ _))).symm

include h0 h1 in
theorem result : (dats m 0 c).arrAt 3 cfg0.N = mat 4096 1024 fun r k => dot 5632 (G r) (W 0 0 k) := by
  refine (dats m 0 c).arrAt_eq_of_covers 3 _ (by decide +kernel) fun t hf y => ?_
  idx_bounds y
  blk_simp
  rw [after0_3, written m c W G h0 h1 t ((flush0_3 t).mp hf)]
  simp only [mat_at]
  blk_simp [idx3]
  have a : t.val / 2 * 512 + (y 0).val = 512 * (t.val / 2) + (y 0).val := by omega
  rw [a]

open Cert.Reference5Ideal.Read in
theorem reference : val_main_v5 (F := Ideal) (four 4 2 1024 5632 W) (mat 4096 5632 G) = mat 4096 1024 fun r k => dot 5632 (G r) (W 0 0 k) := by
  funext i
  idx_bounds i
  refine (val_main_v5_apply _ _ i).trans ?_
  rw [mat_at]
  refine Finset.sum_congr rfl fun k _ => ?_
  refine congrArg₂ (· * ·) rfl ?_
  rw [val_main_v2_apply, val_main_v1_apply, four_at]
  have hk := k.isLt
  show W 0 0 (((i 1).val * 5632 + k.val) / 5632 % 1024) (((i 1).val * 5632 + k.val) % 5632) = W 0 0 (i 1).val k.val
  congr 1 <;> omega

/-- The two programs end with the same gradient. -/
theorem algebraic : Cert.algebraic_Kernel5Ideal_Reference5Ideal := by
  intro m g m' g' hp hm
  refine ⟨fun c => (dats m 0 c).arrAt 3 cfg0.N, Cert.Kernel5Ideal.Value.run_blocks m g, ?_⟩
  refine (θ_run Cert.Reference5Ideal.defs _ _).mono (fun r h c => ?_) (Cert.Reference5Ideal.Value.run (F := Ideal) m' g')
  obtain ⟨W, h0⟩ := exists_four 4 2 1024 5632 (m ((c : Thread nD τ).loc main_arg0))
  obtain ⟨G, h1⟩ := exists_mat 4096 5632 (m ((c : Thread nD τ).loc main_arg1))
  have k0 := (hm c).1.trans h0
  have k1 := (hm c).2.trans h1
  obtain ⟨a, rest⟩ := h c
  refine ⟨a.trans ?_, rest⟩
  dsimp only
  rw [result m c W G h0 h1, Cert.Reference5Ideal.Read.val_main_v5_eq, k0, k1]
  exact reference W G

/-- The printed program and the one read over the extended reals have the same bodies. -/
theorem defs_eq : Cert.Kernel5.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel5 := fun m ρ _ => by
  rw [defs_eq]
  exact frame (F := Bits) m ρ

theorem frame_ideal : Cert.quiescent_Kernel5Ideal := fun m ρ _ => Cert.Kernel5Ideal.Gen.frame m ρ

theorem frame_reference : Cert.quiescent_Reference5Ideal :=
  fun m ρ _ => (θ_run Cert.Reference5Ideal.defs _ _).mono
    (fun r h => ⟨fun c => (h c).2, sem_eq_zero_of_no_sems (by decide) r.2⟩)
    (Cert.Reference5Ideal.Value.run (F := Ideal) m ρ)

end Cert.Ffn.Dn

end
-- ==== Proof.Dwin.lean ====
/- The gradient of the feed-forward layer's input product in its weights: the call's result is, shard by shard of the columns,
   the product of the transposed input with the cotangent. -/
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Dwin

open Cert.Kernel6Ideal Cert.Kernel6Ideal.Gen Cert.Ffn Idealize.ShloMosaic Idealize.ShloMosaic.TcCoe Idealize.SL.Sem
open scoped BigOperators

/-- One tile: the columns of the input against the columns of the cotangent, over one block of rows. -/
theorem tile (a b : ℕ → ℕ → EReal) :
    k0_pay1 (F := Ideal) (mat 1024 1024 a) (mat 1024 1408 b) = mat 1024 1408 fun r x => dot 1024 (fun s => a s r) (fun s => b s x) := by
  funext j
  idx_bounds j
  pointwise [k0_pay1]
  simp only [mat_at]
  refine Finset.sum_congr rfl fun k _ => ?_
  rfl

theorem first (a b : ℕ → ℕ → EReal) :
    k0_pay2 (F := Ideal) (mat 1024 1024 a) (mat 1024 1408 b) = mat 1024 1408 fun r x => dot 1024 (fun s => a s r) (fun s => b s x) := by
  rw [← tile]
  unfold k0_pay2
  dsimp only
  exact Idealize.ShloMosaic.shapeCast_self _ _

theorem next (a b f : ℕ → ℕ → EReal) :
    k0_pay3 (F := Ideal) (mat 1024 1024 a) (mat 1024 1408 b) (mat 1024 1408 f)
    = mat 1024 1408 fun r x => f r x + dot 1024 (fun s => a s r) (fun s => b s x) := by
  have e : k0_pay3 (F := Ideal) (mat 1024 1024 a) (mat 1024 1408 b) (mat 1024 1408 f)
      = addf (F := Ideal) (φ := .f32) (mat 1024 1408 f) (k0_pay1 (F := Ideal) (mat 1024 1024 a) (mat 1024 1408 b)) := by
    unfold k0_pay3
    dsimp only
    exact Idealize.ShloMosaic.shapeCast_self _ _
  rw [e, tile]
  rfl

theorem last (f : ℕ → ℕ → EReal) : k0_pay4 (F := Ideal) (mat 1024 1408 f) = cube 1 1024 1408 fun _ r x => f r x := by
  funext j
  idx_bounds j
  pointwise [k0_pay4]
  rfl

section Cases

variable (c : Dev nD) (i : grid0.Coords) (arg2 : Memref sig .tc .vmem S1024x1024 .bf16) (harg2 : arg2.IsWhole) (arg3 : Memref sig .tc .vmem S1024x1408 .bf16) (harg3 : arg3.IsWhole)
  (arg4 : Memref sig .tc .vmem S1x1024x1408 .bf16) (harg4 : arg4.IsWhole) (arg5 : Memref sig .tc .vmem S1024x1408 .f32) (harg5 : arg5.IsWhole)
  (x0 : Vec Ideal S1024x1024 .bf16) (x1 : Vec Ideal S1024x1408 .bf16) (xs0 : Vec Ideal S1024x1408 .f32)

theorem scratch_A (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0 kernelRun0_A
  dsimp only
  refine (View.read_writes_full ..).trans ?_
  rw [View.readAt_full, View.readAt_full, harg2.read_unread, harg3.read_unread]

theorem scratch_B (hc0 : ¬cond0_0 i) (hc1 : cond0_1 i) (hc2 : ¬cond0_2 i) :
    sout0_B_0 c i arg2 harg2 arg3 harg3 arg4 harg4 arg5 harg5 hc0 hc1 hc2 x0 x1 xs0 = k0_pay3 x0 x1 xs0 := by
  unfold sout0_B_0 kernelRun0_B
  dsimp only
  refine (View.read_writes_full ..).trans ?_
  rw [View.readAt_full, View.readAt_full, View.readAt_full, harg2.read_unread, harg3.read_unread, harg5.read_unread]

theorem scratch_C (hc0 : ¬cond0_0 i) (hc1 : cond0_1 i) (hc2 : cond0_2 i) :
    sout0_C_0 c i arg2 harg2 arg3 harg3 arg4 harg4 arg5 harg5 hc0 hc1 hc2 x0 x1 xs0 = k0_pay3 x0 x1 xs0 := by
  unfold sout0_C_0 kernelRun0_C
  dsimp only
  refine (View.read_writes_full ..).trans ?_
  rw [View.readAt_full, View.readAt_full, View.readAt_full, harg2.read_unread, harg3.read_unread, harg5.read_unread]

theorem out_C (hc0 : ¬cond0_0 i) (hc1 : cond0_1 i) (hc2 : cond0_2 i) :
    out0_C_2 c i arg2 harg2 arg3 harg3 arg4 harg4 arg5 harg5 hc0 hc1 hc2 x0 x1 xs0 = k0_pay4 (k0_pay3 x0 x1 xs0) := by
  unfold out0_C_2 kernelRun0_C
  dsimp only
  refine (View.read_writes_full ..).trans ?_
  unfold kernelRun0_C.sl.v12 kernelRun0_C.sl.HS0_1
  rw [View.readCov_full]
  rw [View.readAt_full, View.readAt_full, View.readAt_full, harg2.read_unread, harg3.read_unread, harg5.read_unread]

end Cases

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val / 4, 0, 0] := (by decide +kernel : ∀ t : Fin grid0.N, _)

variable (m : (ℓ : Loc nD τ sig) → Buf (Elt Ideal) ℓ) (c : Dev nD) (A B : ℕ → ℕ → EReal)
  (h0 : m ((c : Thread nD τ).loc main_arg0) = mat 4096 1024 A) (h1 : m ((c : Thread nD τ).loc main_arg1) = mat 4096 5632 B)

include h0 in
theorem block0 (t : Fin cfg0.N) : iblk m c 0 t = mat 1024 1024 fun s r => A (1024 * (t.val % 4) + s) r := by
  funext y
  idx_bounds y
  blk_simp [iblk]
  rw [V_main_arg0 m c, h0]
  simp only [mat_at]
  blk_simp [idx0]
  congr 1 <;> omega

include h1 in
theorem block1 (t : Fin cfg0.N) : iblk m c 1 t = mat 1024 1408 fun s x => B (1024 * (t.val % 4) + s) (1408 * (t.val / 4) + x) := by
  funext y
  idx_bounds y
  blk_simp [iblk]
  rw [V_main_arg1 m c, h1]
  simp only [mat_at]
  blk_simp [idx1]
  congr 1 <;> omega

/-- What the scratch holds after grid point `n`. -/
abbrev held (n : ℕ) : (⟨2, ![1024, 1408]⟩ : Shape).Idx → EReal :=
  mat 1024 1408 fun r x => part (1024 * (n % 4 + 1)) (fun s => A s r) (fun s => B s (1408 * (n / 4) + x))

include h0 h1 in
theorem state_at (t : Fin cfg0.N) (ih : t.val % 4 ≠ 0 → (outsAt0 m c (t.val - 1) (Nat.lt_of_le_of_lt (Nat.sub_le _ _) t.isLt)).2 = held A B (t.val - 1)) :
    (outsAt0 m c t.val t.isLt).2 = held A B t.val := by
  by_cases q : t.val % 4 = 0
  · rw [outsAt0_A m c t q (by omega) (by omega)]
    dsimp only
    rw [scratch_A, block0 m c A h0, block1 m c B h1, first]
    unfold held
    congr 1
    funext r x
    rw [part_succ, q, part_zero, zero_add]
  · have e : t.val % 4 = (t.val - 1) % 4 + 1 := by omega
    have f : (t.val - 1) / 4 = t.val / 4 := by omega
    have key : k0_pay3 (F := Ideal) (iblk m c 0 t) (iblk m c 1 t) (held A B (t.val - 1)) = held A B t.val := by
      rw [block0 m c A h0, block1 m c B h1, next]
      unfold held
      congr 1
      funext r x
      rw [f, ← e]
      exact (part_succ 1024 _ _ _).symm
    by_cases p : t.val % 4 = 3
    · rw [outsAt0_C m c t q (by omega) p]
      dsimp only
      rw [scratch_C, ih q, key]
    · rw [outsAt0_B m c t q (by omega) p]
      dsimp only
      rw [scratch_B, ih q, key]

include h0 h1 in
theorem state (n : ℕ) (hn : n < cfg0.N) : (outsAt0 m c n hn).2 = held A B n := by
  induction n with
  | zero => exact state_at m c A B h0 h1 ⟨0, hn⟩ fun q => absurd rfl q
  | succ n ih => exact state_at m c A B h0 h1 ⟨n + 1, hn⟩ fun _ => ih _

include h0 h1 in
theorem written (t : Fin cfg0.N) (q : t.val % 4 = 3) :
    (outsAt0 m c t.val t.isLt).1 = cube 1 1024 1408 fun _ r x => dot 4096 (fun s => A s r) (fun s => B s (1408 * (t.val / 4) + x)) := by
  have s := state m c A B h0 h1 t.val t.isLt
  rw [outsAt0_C m c t (by omega) (by omega) q] at s ⊢
  dsimp only at s ⊢
  rw [scratch_C] at s
  rw [out_C, s, last]
  congr 1
  funext _ r x
  rw [q, part_eq_dot]

include h0 h1 in
theorem result : (dats m 0 c).arrAt 2 cfg0.N = cube 4 1024 1408 fun d r x => dot 4096 (fun s => A s r) (fun s => B s (1408 * d + x)) := by
  refine (dats m 0 c).arrAt_eq_of_covers 2 _ (by decide +kernel) fun t hf y => ?_
  idx_bounds y
  blk_simp
  rw [after0_2, written m c A B h0 h1 t ((flush0_2 t).mp hf)]
  simp only [cube_at]
  blk_simp [idx2]

open Cert.Reference6Ideal.Read in
theorem reference : val_main_v8 (F := Ideal) (mat 4096 1024 A) (mat 4096 5632 B)
    = cube 4 1024 1408 fun d r x => dot 4096 (fun s => A s r) (fun s => B s (1408 * d + x)) := by
  funext i
  idx_bounds i
  rw [val_main_v8_apply]
  refine (val_main_v7_apply _ _ i).trans ?_
  rw [val_main_v6_apply, val_main_v5_apply, val_main_v4_apply, cube_at]
  refine Finset.sum_congr rfl fun k _ => ?_
  refine (mul_comm _ _).trans (congrArg₂ (· * ·) ?_ ?_)
  · show A k.val ((((i 1).val * 4 + (i 0).val) * 1408 + (i 2).val) / 5632) = A k.val (i 1).val
    congr 1
    omega
  · show B k.val ((((i 1).val * 4 + (i 0).val) * 1408 + (i 2).val) % 5632) = B k.val (1408 * (i 0).val + (i 2).val)
    congr 1
    omega

/-- The two programs end with the same gradient. -/
theorem algebraic : Cert.algebraic_Kernel6Ideal_Reference6Ideal := by
  intro m g m' g' hp hm
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run (F := Ideal) m' g')
  obtain ⟨A, h0⟩ := exists_mat 4096 1024 (m ((c : Thread nD τ).loc main_arg0))
  obtain ⟨B, h1⟩ := exists_mat 4096 5632 (m ((c : Thread nD τ).loc main_arg1))
  have k0 := (hm c).1.trans h0
  have k1 := (hm c).2.trans h1
  obtain ⟨a, rest⟩ := h c
  refine ⟨a.trans ?_, rest⟩
  dsimp only
  rw [result m c A B h0 h1, Cert.Reference6Ideal.Read.val_main_v8_eq, k0, k1]
  exact reference A B

/-- The printed program and the one read over the extended reals have the same bodies. -/
theorem defs_eq : Cert.Kernel6.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel6 := fun m ρ _ => by
  rw [defs_eq]
  exact frame (F := Bits) m ρ

theorem frame_ideal : Cert.quiescent_Kernel6Ideal := fun m ρ _ => frame m ρ

theorem frame_reference : Cert.quiescent_Reference6Ideal :=
  fun m ρ _ => (θ_run Cert.Reference6Ideal.defs _ _).mono
    (fun r h => ⟨fun c => (h c).2, sem_eq_zero_of_no_sems (by decide) r.2⟩)
    (Cert.Reference6Ideal.Value.run (F := Ideal) m ρ)

end Cert.Ffn.Dwin

end
-- ==== Proof.Gates.lean ====
/- The feed-forward layer's input product and its gate: the call's three results are the two halves of the product with the
   gathered weights, and the first half through the sigmoid gate times the second. -/
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Gates

open Cert.Kernel7Ideal Cert.Kernel7Ideal.Gen Cert.Ffn Idealize.ShloMosaic Idealize.ShloMosaic.TcCoe Idealize.SL.Sem
open scoped BigOperators

theorem gate_tile (a : ℕ → ℕ → EReal) (u : ℕ → ℕ → ℕ → EReal) :
    k0_pay1 (F := Ideal) (mat 512 1024 a) (cube 1 1024 1408 u) = mat 512 1408 fun r s => dot 1024 (a r) (fun k => u 0 k s) := by
  funext j
  idx_bounds j
  pointwise [k0_pay1]
  simp only [mat_at, cube_at]
  refine Finset.sum_congr rfl fun k _ => ?_
  rfl

theorem up_tile (x0 : Vec Ideal S512x1024 .bf16) (x1 : Vec Ideal S1x1024x1408 .bf16) : k0_pay2 (F := Ideal) x0 x1 = k0_pay1 (F := Ideal) x0 x1 := rfl

/-- The gated product of two numbers. -/
def gated (g u : EReal) : EReal := g * Ideal.div 1 (1 + Ideal.exp (-g)) * u

theorem gated_tile (x0 : Vec Ideal S512x1024 .bf16) (x1 x2 : Vec Ideal S1x1024x1408 .bf16) (g u : ℕ → ℕ → EReal)
    (eg : k0_pay1 (F := Ideal) x0 x1 = mat 512 1408 g) (eu : k0_pay2 (F := Ideal) x0 x2 = mat 512 1408 u) :
    k0_pay5 (F := Ideal) x0 x1 x2 = mat 512 1408 fun r s => gated (g r s) (u r s) := by
  funext j
  unfold k0_pay5
  rw [eg, eu]
  idx_bounds j
  pointwise []
  rw [zero_sub]
  rfl

theorem out_gate (x0 : Vec Ideal S512x1024 .bf16) (x1 x2 : Vec Ideal S1x1024x1408 .bf16) : out0_3 x0 x1 x2 = k0_pay1 x0 x1 := by
  unfold out0_3
  refine (View.canon_cons_unit_lit _ _ _ (by decide)).trans ?_
  rw [View.ld_unit_lit _ _ (by decide), View.ld_unit_lit _ _ (by decide)]
  rfl

theorem out_up (x0 : Vec Ideal S512x1024 .bf16) (x1 x2 : Vec Ideal S1x1024x1408 .bf16) : out0_4 x0 x1 x2 = k0_pay1 x0 x2 := by
  unfold out0_4
  refine (View.canon_cons_unit_lit _ _ _ (by decide)).trans ?_
  rw [View.ld_unit_lit _ _ (by decide), View.ld_unit_lit _ _ (by decide)]
  rfl

theorem out_gated (x0 : Vec Ideal S512x1024 .bf16) (x1 x2 : Vec Ideal S1x1024x1408 .bf16) : out0_5 x0 x1 x2 = k0_pay5 x0 x1 x2 := by
  unfold out0_5
  refine (View.canon_cons_unit_lit _ _ _ (by decide)).trans ?_
  rw [View.ld_unit_lit _ _ (by decide), View.ld_unit_lit _ _ (by decide), View.ld_unit_lit _ _ (by decide)]

theorem idx0 : ∀ t : Fin cfg0.N, win0_0.index t = ![t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8 + 2, 0, 0] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)

variable (m : (ℓ : Loc nD τ sig) → Buf (Elt Ideal) ℓ) (c : Dev nD) (A : ℕ → ℕ → EReal) (W : ℕ → ℕ → ℕ → ℕ → EReal)
  (h0 : m ((c : Thread nD τ).loc main_arg0) = mat 4096 1024 A) (h1 : m ((c : Thread nD τ).loc main_arg1) = four 4 2 1024 5632 W)

include h1 in
/-- The gathered weights. -/
theorem entry_w : V m c main_v2 = cube 4 8192 1408 fun d p k => W (p / 1024 / 2) (p / 1024 % 2) (p % 1024) (1408 * d + k) := by
  have e : V m c main_v2 = truncf (F := Ideal) (φ := .f32) .bf16 (transpose S4x8192x1408 [1, 0, 2]
      (shapeCast S8192x4x1408 (m ((c : Thread nD τ).loc main_arg1)) shapeCasts_S4x2x1024x5632_S8192x4x1408) transposes_S8192x4x1408_S4x8192x1408_1_0_2)
      bitsLt_bf16_f32 := by
    unfold V
    simp only [hostOps0, List.flatten_cons, List.flatten_nil, List.append_nil, List.cons_append, List.nil_append]
    entry_read
    rfl
  rw [e, h1]
  exact layout_in W _ _

include h0 in
/-- The layer's input. -/
theorem entry_a : V m c main_arg0 = mat 4096 1024 A := by
  have e : V m c main_arg0 = m ((c : Thread nD τ).loc main_arg0) := by
    unfold V
    simp only [hostOps0, List.flatten_cons, List.flatten_nil, List.append_nil, List.cons_append, List.nil_append]
    entry_read
    rfl
  rw [e, h0]

include h0 in
theorem block0 (t : Fin cfg0.N) : iblk m c 0 t = mat 512 1024 fun r k => A (512 * (t.val % 8) + r) k := by
  funext y
  idx_bounds y
  blk_simp [iblk]
  rw [entry_a m c A h0]
  simp only [mat_at]
  blk_simp [idx0]
  congr 1 <;> omega

include h1 in
theorem block1 (t : Fin cfg0.N) : iblk m c 1 t = cube 1 1024 1408 fun _ k s => W 0 0 k (1408 * (t.val / 8) + s) := by
  funext y
  idx_bounds y
  blk_simp [iblk]
  rw [entry_w m c W h1]
  simp only [cube_at]
  blk_simp [idx1]
  have a : (y 1).val / 1024 = 0 := by omega
  have b : (y 1).val % 1024 = (y 1).val := by omega
  rw [a, b]

include h1 in
theorem block2 (t : Fin cfg0.N) : iblk m c 2 t = cube 1 1024 1408 fun _ k s => W 0 0 k (1408 * (t.val / 8 + 2) + s) := by
  funext y
  idx_bounds y
  blk_simp [iblk]
  rw [entry_w m c W h1]
  simp only [cube_at]
  blk_simp [idx2]
  have a : (y 1).val / 1024 = 0 := by omega
  have b : (y 1).val % 1024 = (y 1).val := by omega
  rw [a, b]

/-- The product's entries. -/
abbrev product (r s : ℕ) : EReal := dot 1024 (A r) fun k => W 0 0 k s

include h0 h1 in
theorem gate_at (t : Fin cfg0.N) : k0_pay1 (F := Ideal) (iblk m c 0 t) (iblk m c 1 t)
    = mat 512 1408 fun r s => product A W (512 * (t.val % 8) + r) (1408 * (t.val / 8) + s) := by
  rw [block0 m c A h0, block1 m c W h1, gate_tile]

include h0 h1 in
theorem up_at (t : Fin cfg0.N) : k0_pay1 (F := Ideal) (iblk m c 0 t) (iblk m c 2 t)
    = mat 512 1408 fun r s => product A W (512 * (t.val % 8) + r) (2816 + (1408 * (t.val / 8) + s)) := by
  rw [block0 m c A h0, block2 m c W h1, gate_tile]
  refine congrArg (mat 512 1408) (funext fun r => funext fun s => ?_)
  have e : 1408 * (t.val / 8 + 2) + s = 2816 + (1408 * (t.val / 8) + s) := by omega
  rw [e]

include h0 h1 in
theorem result_gate : (dats m 0 c).arrAt 3 cfg0.N = mat 4096 2816 fun r s => product A W r s := by
  refine (dats m 0 c).arrAt_eq_of_covers 3 _ (by decide +kernel) fun t hf y => ?_
  idx_bounds y
  blk_simp
  rw [after0_3, out_gate, gate_at m c A W h0 h1]
  simp only [mat_at]
  blk_simp [idx3]
  have a : t.val % 8 * 512 + (y 0).val = 512 * (t.val % 8) + (y 0).val := by omega
  have b : t.val / 8 * 1408 + (y 1).val = 1408 * (t.val / 8) + (y 1).val := by omega
  rw [a, b]

include h0 h1 in
theorem result_up : (dats m 0 c).arrAt 4 cfg0.N = mat 4096 2816 fun r s => product A W r (2816 + s) := by
  refine (dats m 0 c).arrAt_eq_of_covers 4 _ (by decide +kernel) fun t hf y => ?_
  idx_bounds y
  blk_simp
  rw [after0_4, out_up, up_at m c A W h0 h1]
  simp only [mat_at]
  blk_simp [idx4]
  have a : t.val % 8 * 512 + (y 0).val = 512 * (t.val % 8) + (y 0).val := by omega
  have b : t.val / 8 * 1408 + (y 1).val = 1408 * (t.val / 8) + (y 1).val := by omega
  rw [a, b]

include h0 h1 in
theorem result_gated : (dats m 0 c).arrAt 5 cfg0.N = mat 4096 2816 fun r s => gated (product A W r s) (product A W r (2816 + s)) := by
  refine (dats m 0 c).arrAt_eq_of_covers 5 _ (by decide +kernel) fun t hf y => ?_
  idx_bounds y
  blk_simp
  rw [after0_5, out_gated, gated_tile _ _ _ _ _ (gate_at m c A W h0 h1 t) ((up_tile _ _).trans (up_at m c A W h0 h1 t))]
  simp only [mat_at]
  blk_simp [idx5]
  have a : t.val % 8 * 512 + (y 0).val = 512 * (t.val % 8) + (y 0).val := by omega
  have b : t.val / 8 * 1408 + (y 1).val = 1408 * (t.val / 8) + (y 1).val := by omega
  rw [a, b]

open Cert.Reference7Ideal.Read in
theorem reference_product (i : (⟨2, ![4096, 5632]⟩ : Shape).Idx) :
    val_main_v3 (F := Ideal) (mat 4096 1024 A) (four 4 2 1024 5632 W) i = product A W (i 0).val (i 1).val := by
  idx_bounds i
  refine (val_main_v3_apply _ _ i).trans ?_
  refine Finset.sum_congr rfl fun k _ => ?_
  refine congrArg₂ (· * ·) rfl ?_
  rw [val_main_v2_apply, val_main_v1_apply, four_at]
  have hk := k.isLt
  show W 0 0 ((k.val * 5632 + (i 1).val) / 5632 % 1024) ((k.val * 5632 + (i 1).val) % 5632) = W 0 0 k.val (i 1).val
  congr 1 <;> omega

open Cert.Reference7Ideal.Read in
theorem reference_gate : val_main_v4 (F := Ideal) (mat 4096 1024 A) (four 4 2 1024 5632 W) = mat 4096 2816 fun r s => product A W r s := by
  funext i
  rw [val_main_v4_apply, reference_product]
  rfl

open Cert.Reference7Ideal.Read in
theorem reference_up : val_main_v5 (F := Ideal) (mat 4096 1024 A) (four 4 2 1024 5632 W) = mat 4096 2816 fun r s => product A W r (2816 + s) := by
  funext i
  rw [val_main_v5_apply, reference_product]
  rfl

open Cert.Reference7Ideal.Read in
theorem reference_gated : val_main_v10 (F := Ideal) (mat 4096 1024 A) (four 4 2 1024 5632 W)
    = mat 4096 2816 fun r s => gated (product A W r s) (product A W r (2816 + s)) := by
  funext i
  have g : val_main_v4 (F := Ideal) (mat 4096 1024 A) (four 4 2 1024 5632 W) i = product A W (i 0).val (i 1).val := congrFun (reference_gate A W) i
  have u : val_main_v5 (F := Ideal) (mat 4096 1024 A) (four 4 2 1024 5632 W) i = product A W (i 0).val (2816 + (i 1).val) := congrFun (reference_up A W) i
  pointwise [val_main_v10, val_main_v9, val_main_v8, val_main_call0_v5, val_main_call0_v4, val_main_call0_v3, val_main_call0_v2, val_main_call0_v1, val_main_call0_v0, val_main_call0_cst, val_main_call0_cst_0]
  rw [g, u]
  rfl

/-- The two programs end with the same three results. -/
theorem algebraic : Cert.algebraic_Kernel7Ideal_Reference7Ideal := by
  intro m g m' g' hp hm
  refine ⟨fun c => (dats m 0 c).arrAt 3 cfg0.N, fun c => (dats m 0 c).arrAt 4 cfg0.N, fun c => (dats m 0 c).arrAt 5 cfg0.N, Cert.Kernel7Ideal.Value.run_blocks m g, ?_⟩
  refine (θ_run Cert.Reference7Ideal.defs _ _).mono (fun r h c => ?_) (Cert.Reference7Ideal.Value.run (F := Ideal) m' g')
  obtain ⟨A, h0⟩ := exists_mat 4096 1024 (m ((c : Thread nD τ).loc main_arg0))
  obtain ⟨W, h1⟩ := exists_four 4 2 1024 5632 (m ((c : Thread nD τ).loc main_arg1))
  have k0 := (hm c).1.trans h0
  have k1 := (hm c).2.trans h1
  obtain ⟨a, b, d, rest⟩ := h c
  refine ⟨a.trans ?_, b.trans ?_, d.trans ?_, rest⟩
  · dsimp only
    rw [result_gate m c A W h0 h1, Cert.Reference7Ideal.Read.val_main_v6_eq, k0, k1]
    exact reference_gate A W
  · dsimp only
    rw [result_up m c A W h0 h1, Cert.Reference7Ideal.Read.val_main_v7_eq, k0, k1]
    exact reference_up A W
  · dsimp only
    rw [result_gated m c A W h0 h1, Cert.Reference7Ideal.Read.val_main_v10_eq, k0, k1]
    exact reference_gated A W

/-- The printed program and the one read over the extended reals have the same bodies. -/
theorem defs_eq : Cert.Kernel7.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel7 := fun m ρ _ => by
  rw [defs_eq]
  exact frame (F := Bits) m ρ

theorem frame_ideal : Cert.quiescent_Kernel7Ideal := fun m ρ _ => Cert.Kernel7Ideal.Gen.frame m ρ

theorem frame_reference : Cert.quiescent_Reference7Ideal :=
  fun m ρ _ => (θ_run Cert.Reference7Ideal.defs _ _).mono
    (fun r h => ⟨fun c => (h c).2.2.2, sem_eq_zero_of_no_sems (by decide) r.2⟩)
    (Cert.Reference7Ideal.Value.run (F := Ideal) m ρ)

end Cert.Ffn.Gates

end
-- ==== Proof.Proj.lean ====
/- The feed-forward layer's output product and what follows it: the call's two results are the product with the gathered
   weights, and the layer's input plus half that product, normalised by its rows' mean squares and scaled. -/
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Proj

open Cert.Kernel8Ideal Cert.Kernel8Ideal.Gen Cert.Ffn Idealize.ShloMosaic Idealize.ShloMosaic.TcCoe Idealize.SL.Sem
open scoped BigOperators

/-- A product over 1408 entries, of which the last 704 come from a second column. -/
theorem halves (a u v : ℕ → EReal) :
    dot 1408 a (fun s => if s < 704 then u s else v (s - 704))
    = ∑ k : Fin 704, a k.val * u k.val + ∑ k : Fin 704, a (704 + k.val) * v k.val := by
  refine (Fin.sum_univ_add (a := 704) (b := 704) fun k : Fin (704 + 704) => a k.val * (if k.val < 704 then u k.val else v (k.val - 704))).trans ?_
  refine congrArg₂ (· + ·) (Finset.sum_congr rfl fun k _ => ?_) (Finset.sum_congr rfl fun k _ => ?_)
  · rw [Fin.coe_castAdd, if_pos k.isLt]
  · rw [Fin.coe_natAdd, if_neg (by omega), Nat.add_sub_cancel_left]

/-- One tile: rows of the activation against the two devices' rows of the weights, one below the other. -/
theorem tile (u v : ℕ → ℕ → ℕ → EReal) (a : ℕ → ℕ → EReal) :
    k0_pay1 (F := Ideal) (cube 1 704 1024 u) (cube 1 704 1024 v) (mat 512 1408 a)
    = mat 512 1024 fun r x => dot 1408 (a r) fun s => if s < 704 then u 0 s x else v 0 (s - 704) x := by
  funext j
  idx_bounds j
  pointwise [k0_pay1]
  simp only [mat_at, cube_at]
  exact (halves (a (j 0).val) (fun s => u 0 s (j 1).val) fun s => v 0 s (j 1).val).symm

theorem first (x1 x2 : Vec Ideal S1x704x1024 .bf16) (x0 : Vec Ideal S512x1408 .bf16) :
    k0_pay2 (F := Ideal) x1 x2 x0 = k0_pay1 (F := Ideal) x1 x2 x0 := by
  unfold k0_pay2
  exact Idealize.ShloMosaic.shapeCast_self _ _

theorem next (x1 x2 : Vec Ideal S1x704x1024 .bf16) (x0 : Vec Ideal S512x1408 .bf16) (y : Vec Ideal S512x1024 .f32) :
    k0_pay3 (F := Ideal) x1 x2 x0 y = addf (F := Ideal) (φ := .f32) y (k0_pay1 (F := Ideal) x1 x2 x0) := rfl

/-- A row's entry `k`, added with the factor one half and the scale `g` to `x`, after division by the root of the row's mean square. -/
def joined (h : ℕ → EReal) (k : ℕ) (x g : EReal) : EReal :=
  x + Ideal.ofBits .f32 0x3F000000#32 * (h k * Ideal.rsqrt (Ideal.div (dot 1024 h h) (Ideal.ofBits .f32 0x44800000#32) + Ideal.ofBits .f32 0x358637BD#32) * g)

theorem last (x1 x2 : Vec Ideal S1x704x1024 .bf16) (x0 : Vec Ideal S512x1408 .bf16) (y : Vec Ideal S512x1024 .f32) (h x g : ℕ → ℕ → EReal)
    (e : k0_pay3 (F := Ideal) x1 x2 x0 y = mat 512 1024 h) :
    k0_pay4 (F := Ideal) x1 x2 x0 y (mat 512 1024 x) (mat 1 1024 g) = mat 512 1024 fun r k => joined (h r) k (x r k) (g 0 k) := by
  funext j
  unfold k0_pay4
  rw [e]
  idx_bounds j
  pointwise []
  rfl

section Cases

variable (c : Dev nD) (i : grid0.Coords) (arg2 : Memref sig .tc .vmem S512x1408 .bf16) (harg2 : arg2.IsWhole) (arg3 : Memref sig .tc .vmem S1x704x1024 .bf16) (harg3 : arg3.IsWhole)
  (arg4 : Memref sig .tc .vmem S1x704x1024 .bf16) (harg4 : arg4.IsWhole) (arg5 : Memref sig .tc .vmem S512x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole)
  (x0 : Vec Ideal S512x1408 .bf16) (x1 x2 : Vec Ideal S1x704x1024 .bf16) (x3 : Vec Ideal S512x1024 .f32) (x4 : Vec Ideal S1x1024 .f32) (xs0 : Vec Ideal S512x1024 .f32)

theorem scratch_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = k0_pay1 x1 x2 x0 := by
  unfold sout0_A_0 kernelRun0_A
  dsimp only
  refine (View.read_writes_full ..).trans ?_
  rw [View.readAt_full, View.readAt_full, View.readAt_full, harg2.read_unread, harg3.read_unread, harg4.read_unread]
  exact first x1 x2 x0

theorem out_B (hc0 : ¬cond0_0 i) (hc1 : cond0_1 i) :
    out0_B_5 c i arg2 harg2 arg3 harg3 arg4 harg4 arg5 harg5 arg6 harg6 arg7 harg7 arg8 harg8 arg9 harg9 hc0 hc1 x0 x1 x2 x3 x4 xs0 = k0_pay3 x1 x2 x0 xs0 := by
  unfold out0_B_5 kernelRun0_B
  dsimp only
  refine (View.read_writes_full ..).trans ?_
  rw [View.readAt_full, View.readAt_full, View.readAt_full, View.readAt_full, harg2.read_unread, harg3.read_unread, harg4.read_unread, harg9.read_unread]

theorem sum_B (hc0 : ¬cond0_0 i) (hc1 : cond0_1 i) :
    out0_B_6 c i arg2 harg2 arg3 harg3 arg4 harg4 arg5 harg5 arg6 harg6 arg7 harg7 arg8 harg8 arg9 harg9 hc0 hc1 x0 x1 x2 x3 x4 xs0 = k0_pay4 x1 x2 x0 xs0 x3 x4 := by
  unfold out0_B_6 kernelRun0_B
  dsimp only
  refine (View.read_writes_full ..).trans ?_
  rw [View.readAt_full, View.readAt_full, View.readAt_full, View.readAt_full, View.readAt_full, View.readAt_full, harg2.read_unread, harg3.read_unread, harg4.read_unread, harg9.read_unread,
    harg5.read_unread, harg6.read_unread]

end Cases

theorem idx0 : ∀ t : Fin cfg0.N, win0_0.index t = ![t.val / 2, t.val % 2] := (by decide +kernel : ∀ t : Fin grid0.N, _)
theorem idx1 : ∀ t : Fin cfg0.N, win0_1.index t = ![2 * (t.val % 2), 0, 0] := (by decide +kernel : ∀ t : Fin grid0.N, _)
theorem idx2 : ∀ t : Fin cfg0.N, win0_2.index t = ![2 * (t.val % 2) + 1, 0, 0] := (by decide +kernel : ∀ t : Fin grid0.N, _)
theorem idx3 : ∀ t : Fin cfg0.N, win0_3.index t = ![t.val / 2, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 2, 0] := (by decide +kernel : ∀ t : Fin grid0.N, _)
theorem idx6 : ∀ t : Fin cfg0.N, win0_6.index t = ![t.val / 2, 0] := (by decide +kernel : ∀ t : Fin grid0.N, _)

variable (m : (ℓ : Loc nD τ sig) → Buf (Elt Ideal) ℓ) (c : Dev nD) (A : ℕ → ℕ → EReal) (W : ℕ → ℕ → ℕ → ℕ → EReal) (X : ℕ → ℕ → EReal) (S : ℕ → EReal)
  (h0 : m ((c : Thread nD τ).loc main_arg0) = mat 4096 2816 A) (h1 : m ((c : Thread nD τ).loc main_arg1) = four 4 2 2816 1024 W)
  (h2 : m ((c : Thread nD τ).loc main_arg2) = mat 4096 1024 X) (h3 : m ((c : Thread nD τ).loc main_arg3) = row 1024 S)

include h1 in
/-- The gathered weights. -/
theorem entry_w : V m c main_v3 = cube 4 5632 1024 fun d p k => W (p / 704 / 2) (p / 704 % 2) (704 * d + p % 704) k := by
  have e : V m c main_v3 = truncf (F := Ideal) (φ := .f32) .bf16 (shapeCast S4x5632x1024 (transpose S4x8x704x1024 [1, 0, 2, 3]
      (shapeCast S8x4x704x1024 (m ((c : Thread nD τ).loc main_arg1)) shapeCasts_S4x2x2816x1024_S8x4x704x1024) transposes_S8x4x704x1024_S4x8x704x1024_1_0_2_3)
      shapeCasts_S4x8x704x1024_S4x5632x1024) bitsLt_bf16_f32 := by
    unfold V
    simp only [hostOps0, List.flatten_cons, List.flatten_nil, List.append_nil, List.cons_append, List.nil_append]
    entry_read
    rfl
  rw [e, h1]
  exact layout_out W _ _ _

include h0 in
/-- The activation. -/
theorem entry_a : V m c main_arg0 = mat 4096 2816 A := by
  have e : V m c main_arg0 = m ((c : Thread nD τ).loc main_arg0) := by
    unfold V
    simp only [hostOps0, List.flatten_cons, List.flatten_nil, List.append_nil, List.cons_append, List.nil_append]
    entry_read
    rfl
  rw [e, h0]

include h2 in
/-- The layer's input. -/
theorem entry_x : V m c main_arg2 = mat 4096 1024 X := by
  have e : V m c main_arg2 = m ((c : Thread nD τ).loc main_arg2) := by
    unfold V
    simp only [hostOps0, List.flatten_cons, List.flatten_nil, List.append_nil, List.cons_append, List.nil_append]
    entry_read
    rfl
  rw [e, h2]

include h3 in
/-- The scale, as one row. -/
theorem entry_s : V m c main_v4 = mat 1 1024 fun _ k => S k := by
  have e : V m c main_v4 = broadcastInDim S1x1024 ![1] bcast_S1024_S1x1024_1 (m ((c : Thread nD τ).loc main_arg3)) := by
    unfold V
    simp only [hostOps0, List.flatten_cons, List.flatten_nil, List.append_nil, List.cons_append, List.nil_append]
    entry_read
    rfl
  rw [e, h3]
  funext j
  rfl

include h0 in
theorem block0 (t : Fin cfg0.N) : iblk m c 0 t = mat 512 1408 fun r s => A (512 * (t.val / 2) + r) (1408 * (t.val % 2) + s) := by
  funext y
  idx_bounds y
  blk_simp [iblk]
  rw [entry_a m c A h0]
  simp only [mat_at]
  blk_simp [idx0]
  congr 1 <;> omega

include h1 in
theorem block1 (t : Fin cfg0.N) : iblk m c 1 t = cube 1 704 1024 fun _ s x => W 0 0 (704 * (2 * (t.val % 2)) + s) x := by
  funext y
  idx_bounds y
  blk_simp [iblk]
  rw [entry_w m c W h1]
  simp only [cube_at]
  blk_simp [idx1]
  have a : (y 1).val / 704 = 0 := by omega
  have b : (y 1).val % 704 = (y 1).val := by omega
  rw [a, b]

include h1 in
theorem block2 (t : Fin cfg0.N) : iblk m c 2 t = cube 1 704 1024 fun _ s x => W 0 0 (704 * (2 * (t.val % 2) + 1) + s) x := by
  funext y
  idx_bounds y
  blk_simp [iblk]
  rw [entry_w m c W h1]
  simp only [cube_at]
  blk_simp [idx2]
  have a : (y 1).val / 704 = 0 := by omega
  have b : (y 1).val % 704 = (y 1).val := by omega
  rw [a, b]

include h2 in
theorem block3 (t : Fin cfg0.N) : iblk m c 3 t = mat 512 1024 fun r x => X (512 * (t.val / 2) + r) x := by
  funext y
  idx_bounds y
  blk_simp [iblk]
  rw [entry_x m c X h2]
  simp only [mat_at]
  blk_simp [idx3]
  congr 1 <;> omega

include h3 in
theorem block4 (t : Fin cfg0.N) : iblk m c 4 t = mat 1 1024 fun _ x => S x := by
  funext y
  idx_bounds y
  blk_simp [iblk]
  rw [entry_s m c S h3]
  simp only [mat_at]
  blk_simp [idx4]

include h0 h1 in
theorem tile_at (t : Fin cfg0.N) : k0_pay1 (F := Ideal) (iblk m c 1 t) (iblk m c 2 t) (iblk m c 0 t)
    = mat 512 1024 fun r x => dot 1408 (fun s => A (512 * (t.val / 2) + r) (1408 * (t.val % 2) + s)) (fun s => W 0 0 (1408 * (t.val % 2) + s) x) := by
  rw [block0 m c A h0, block1 m c W h1, block2 m c W h1, tile]
  refine congrArg (mat 512 1024) (funext fun r => funext fun x => congrArg (dot 1408 _) (funext fun s => ?_))
  by_cases q : s < 704
  · have b : 704 * (2 * (t.val % 2)) + s = 1408 * (t.val % 2) + s := by omega
    rw [if_pos q, b]
  · have b : 704 * (2 * (t.val % 2) + 1) + (s - 704) = 1408 * (t.val % 2) + s := by omega
    rw [if_neg q, b]

/-- The product's entries. -/
abbrev product (r x : ℕ) : EReal := dot 2816 (A r) fun s => W 0 0 s x

include h0 h1 in
theorem state (t : Fin cfg0.N) (q : t.val % 2 = 0) :
    (outsAt0 m c t.val t.isLt).2.2 = mat 512 1024 fun r x => part (1408 * 1) (A (512 * (t.val / 2) + r)) (fun s => W 0 0 s x) := by
  rw [outsAt0_A m c t q (by omega)]
  dsimp only
  rw [scratch_A, tile_at m c A W h0 h1]
  refine congrArg (mat 512 1024) (funext fun r => funext fun x => ?_)
  rw [q, part_succ 1408 0, part_zero, zero_add]

include h0 h1 in
/-- The second point of a block of rows ends with the whole product. -/
theorem whole (t : Fin cfg0.N) (q : t.val % 2 = 1) (l : t.val - 1 < cfg0.N) :
    k0_pay3 (F := Ideal) (iblk m c 1 t) (iblk m c 2 t) (iblk m c 0 t) (outsAt0 m c (t.val - 1) l).2.2
    = mat 512 1024 fun r x => product A W (512 * (t.val / 2) + r) x := by
  have s := state m c A W h0 h1 ⟨t.val - 1, l⟩ (by show (t.val - 1) % 2 = 0; omega)
  have f : (t.val - 1) / 2 = t.val / 2 := by omega
  dsimp only at s
  rw [f] at s
  rw [s, next, tile_at m c A W h0 h1]
  funext y
  show part (1408 * 1) (A (512 * (t.val / 2) + (y 0).val)) (fun s => W 0 0 s (y 1).val) + _ = dot 2816 (A (512 * (t.val / 2) + (y 0).val)) fun s => W 0 0 s (y 1).val
  rw [mat_at, q, ← part_eq_dot]
  exact (part_succ 1408 1 _ _).symm

include h0 h1 in
theorem result_product : (dats m 0 c).arrAt 5 cfg0.N = mat 4096 1024 fun r x => product A W r x := by
  refine (dats m 0 c).arrAt_eq_of_covers 5 _ (by decide +kernel) fun t hf y => ?_
  have q := (flush0_5 t).mp hf
  idx_bounds y
  blk_simp
  rw [after0_5, outsAt0_B m c t (by omega) q]
  dsimp only
  rw [out_B, whole m c A W h0 h1 t q]
  simp only [mat_at]
  blk_simp [idx5]
  have a : t.val / 2 * 512 + (y 0).val = 512 * (t.val / 2) + (y 0).val := by omega
  rw [a]

include h0 h1 h2 h3 in
theorem result_sum : (dats m 0 c).arrAt 6 cfg0.N = mat 4096 1024 fun r x => joined (product A W r) x (X r x) (S x) := by
  refine (dats m 0 c).arrAt_eq_of_covers 6 _ (by decide +kernel) fun t hf y => ?_
  have q := (flush0_6 t).mp hf
  idx_bounds y
  blk_simp
  rw [after0_6, outsAt0_B m c t (by omega) q]
  dsimp only
  rw [sum_B, block3 m c X h2, block4 m c S h3, last _ _ _ _ _ _ _ (whole m c A W h0 h1 t q _)]
  simp only [mat_at]
  blk_simp [idx6]
  have a : t.val / 2 * 512 + (y 0).val = 512 * (t.val / 2) + (y 0).val := by omega
  rw [a]

open Cert.Reference8Ideal.Read in
theorem reference_product : val_main_v3 (F := Ideal) (mat 4096 2816 A) (four 4 2 2816 1024 W) = mat 4096 1024 fun r x => product A W r x := by
  funext i
  idx_bounds i
  refine (val_main_v3_apply _ _ i).trans ?_
  rw [mat_at]
  refine Finset.sum_congr rfl fun k _ => ?_
  refine congrArg₂ (· * ·) rfl ?_
  rw [val_main_v2_apply, val_main_v1_apply, four_at]
  have hk := k.isLt
  show W 0 0 ((k.val * 1024 + (i 1).val) / 1024 % 2816) ((k.val * 1024 + (i 1).val) % 1024) = W 0 0 k.val (i 1).val
  congr 1 <;> omega

open Cert.Reference8Ideal.Read in
theorem reference_square (i : (⟨1, ![4096]⟩ : Shape).Idx) : val_main_v5 (F := Ideal) (mat 4096 2816 A) (four 4 2 2816 1024 W) i
    = dot 1024 (product A W (i 0).val) (product A W (i 0).val) := by
  refine (val_main_v5_apply _ _ i).trans ?_
  have z : ∀ j, val_main_cst (F := Ideal) j = 0 := fun j => by
    pointwise [val_main_cst]
  rw [z, zero_add]
  refine Finset.sum_congr rfl fun k _ => ?_
  rw [val_main_v4_apply, reference_product]
  rfl

open Cert.Reference8Ideal.Read in
theorem reference_sum : val_main_v19 (F := Ideal) (mat 4096 2816 A) (four 4 2 2816 1024 W) (mat 4096 1024 X) (row 1024 S)
    = mat 4096 1024 fun r x => joined (product A W r) x (X r x) (S x) := by
  funext i
  idx_bounds i
  simp only [val_main_v19_apply, val_main_v18_apply, val_main_v17_apply, val_main_v16_apply, val_main_v15_apply, val_main_v14_apply, val_main_v13_apply, val_main_v12_apply, val_main_v11_apply,
    val_main_v10_apply, val_main_v9_apply, val_main_v8_apply, val_main_v7_apply, val_main_v6_apply, reference_product, reference_square]
  rfl

/-- The two programs end with the same two results. -/
theorem algebraic : Cert.algebraic_Kernel8Ideal_Reference8Ideal := by
  intro m g m' g' hp hm
  refine ⟨fun c => (dats m 0 c).arrAt 5 cfg0.N, fun c => (dats m 0 c).arrAt 6 cfg0.N, Cert.Kernel8Ideal.Value.run_blocks m g, ?_⟩
  refine (θ_run Cert.Reference8Ideal.defs _ _).mono (fun r h c => ?_) (Cert.Reference8Ideal.Value.run (F := Ideal) m' g')
  obtain ⟨A, h0⟩ := exists_mat 4096 2816 (m ((c : Thread nD τ).loc main_arg0))
  obtain ⟨W, h1⟩ := exists_four 4 2 2816 1024 (m ((c : Thread nD τ).loc main_arg1))
  obtain ⟨X, h2⟩ := exists_mat 4096 1024 (m ((c : Thread nD τ).loc main_arg2))
  obtain ⟨S, h3⟩ := exists_row 1024 (m ((c : Thread nD τ).loc main_arg3))
  have k0 := (hm c).1.trans h0
  have k1 := (hm c).2.1.trans h1
  have k2 := (hm c).2.2.1.trans h2
  have k3 := (hm c).2.2.2.trans h3
  obtain ⟨a, b, rest⟩ := h c
  refine ⟨a.trans ?_, b.trans ?_, rest⟩
  · dsimp only
    rw [result_product m c A W h0 h1, Cert.Reference8Ideal.Read.val_main_v3_eq, k0, k1]
    exact reference_product A W
  · dsimp only
    rw [result_sum m c A W X S h0 h1 h2 h3, Cert.Reference8Ideal.Read.val_main_v19_eq, k0, k1, k2, k3]
    exact reference_sum A W X S

/-- The printed program and the one read over the extended reals have the same bodies. -/
theorem defs_eq : Cert.Kernel8.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel8 := fun m ρ _ => by
  rw [defs_eq]
  exact frame (F := Bits) m ρ

theorem frame_ideal : Cert.quiescent_Kernel8Ideal := fun m ρ _ => Cert.Kernel8Ideal.Gen.frame m ρ

theorem frame_reference : Cert.quiescent_Reference8Ideal :=
  fun m ρ _ => (θ_run Cert.Reference8Ideal.defs _ _).mono
    (fun r h => ⟨fun c => (h c).2.2, sem_eq_zero_of_no_sems (by decide) r.2⟩)
    (Cert.Reference8Ideal.Value.run (F := Ideal) m ρ)

end Cert.Ffn.Proj

end
-- ==== Proof.Square.lean ====
/- The gradient of a square product in its weights: the call's result is the product of the transposed input with the
   cotangent. -/
module

public import proofs.«01_k».proof.Defs
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.Mat
public import Idealize.ShloMosaic.Lib.Pipeline.ValueKit
public import Idealize.ShloMosaic.Lib.Affine

@[expose] public section

set_option maxRecDepth 16384

noncomputable section

namespace Cert.Ffn.Square

open Cert.Kernel9Ideal Cert.Kernel9Ideal.Gen Cert.Ffn Idealize.ShloMosaic Idealize.ShloMosaic.TcCoe Idealize.SL.Sem
open scoped BigOperators

/-- One tile: the columns of the input against the columns of the cotangent, over one block of rows. -/
theorem tile (a b : ℕ → ℕ → EReal) :
    k0_pay1 (F := Ideal) (mat 1024 1024 a) (mat 1024 1024 b) = mat 1024 1024 fun r x => dot 1024 (fun s => a s r) (fun s => b s x) := by
  funext j
  idx_bounds j
  pointwise [k0_pay1]
  simp only [mat_at]
  refine Finset.sum_congr rfl fun k _ => ?_
  rfl

theorem first (a b : ℕ → ℕ → EReal) :
    k0_pay2 (F := Ideal) (mat 1024 1024 a) (mat 1024 1024 b) = mat 1024 1024 fun r x => dot 1024 (fun s => a s r) (fun s => b s x) := by
  rw [← tile]
  unfold k0_pay2
  dsimp only
  exact Idealize.ShloMosaic.shapeCast_self _ _

theorem next (a b f : ℕ → ℕ → EReal) :
    k0_pay3 (F := Ideal) (mat 1024 1024 a) (mat 1024 1024 b) (mat 1024 1024 f)
    = mat 1024 1024 fun r x => f r x + dot 1024 (fun s => a s r) (fun s => b s x) := by
  have e : k0_pay3 (F := Ideal) (mat 1024 1024 a) (mat 1024 1024 b) (mat 1024 1024 f)
      = addf (F := Ideal) (φ := .f32) (mat 1024 1024 f) (k0_pay1 (F := Ideal) (mat 1024 1024 a) (mat 1024 1024 b)) := by
    unfold k0_pay3
    dsimp only
    exact Idealize.ShloMosaic.shapeCast_self _ _
  rw [e, tile]
  rfl

theorem last (f : ℕ → ℕ → EReal) : k0_pay4 (F := Ideal) (mat 1024 1024 f) = mat 1024 1024 f := rfl

section Cases

variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16) (xs0 : Vec Ideal S1024x1024 .f32)

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  refine (View.read_writes_full ..).trans ?_
  rw [View.readAt_full, View.readAt_full, harg3.read_unread, harg4.read_unread]

theorem scratch_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  dsimp only
  refine (View.read_writes_full ..).trans ?_
  rw [View.readAt_full, View.readAt_full, View.readAt_full, harg3.read_unread, harg4.read_unread, harg6.read_unread]

theorem scratch_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0 kernelRun0_C
  dsimp only
  refine (View.read_writes_full ..).trans ?_
  rw [View.readAt_full, View.readAt_full, View.readAt_full, harg3.read_unread, harg4.read_unread, harg6.read_unread]

theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2 kernelRun0_C
  dsimp only
  refine (View.read_writes_full ..).trans ?_
  unfold kernelRun0_C.sl.v12 kernelRun0_C.sl.HS0_1
  rw [View.readCov_full]
  rw [View.readAt_full, View.readAt_full, View.readAt_full, harg3.read_unread, harg4.read_unread, harg6.read_unread]

end Cases

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

variable (m : (ℓ : Loc nD τ sig) → Buf (Elt Ideal) ℓ) (c : Dev nD) (A B : ℕ → ℕ → EReal)
  (h0 : m ((c : Thread nD τ).loc main_arg0) = mat 4096 1024 A) (h1 : m ((c : Thread nD τ).loc main_arg1) = mat 4096 1024 B)

include h0 in
theorem block0 (t : Fin cfg0.N) : iblk m c 0 t = mat 1024 1024 fun s r => A (1024 * (t.val % 4) + s) r := by
  funext y
  idx_bounds y
  blk_simp [iblk]
  rw [V_main_arg0 m c, h0]
  simp only [mat_at]
  blk_simp [idx0]
  congr 1 <;> omega

include h1 in
theorem block1 (t : Fin cfg0.N) : iblk m c 1 t = mat 1024 1024 fun s x => B (1024 * (t.val % 4) + s) x := by
  funext y
  idx_bounds y
  blk_simp [iblk]
  rw [V_main_arg1 m c, h1]
  simp only [mat_at]
  blk_simp [idx1]
  congr 1 <;> omega

/-- What the scratch holds after grid point `n`. -/
abbrev held (n : ℕ) : (⟨2, ![1024, 1024]⟩ : Shape).Idx → EReal :=
  mat 1024 1024 fun r x => part (1024 * (n % 4 + 1)) (fun s => A s r) (fun s => B s x)

include h0 h1 in
theorem state_at (t : Fin cfg0.N) (ih : t.val % 4 ≠ 0 → (outsAt0 m c (t.val - 1) (Nat.lt_of_le_of_lt (Nat.sub_le _ _) t.isLt)).2 = held A B (t.val - 1)) :
    (outsAt0 m c t.val t.isLt).2 = held A B t.val := by
  have tl : t.val < 4 := t.isLt
  by_cases q : t.val % 4 = 0
  · rw [outsAt0_A m c t q (by omega) (by omega)]
    dsimp only
    rw [scratch_A, block0 m c A h0, block1 m c B h1, first]
    unfold held
    congr 1
    funext r x
    rw [part_succ, q, part_zero, zero_add]
  · have e : t.val % 4 = (t.val - 1) % 4 + 1 := by omega
    have key : k0_pay3 (F := Ideal) (iblk m c 0 t) (iblk m c 1 t) (held A B (t.val - 1)) = held A B t.val := by
      rw [block0 m c A h0, block1 m c B h1, next]
      unfold held
      congr 1
      funext r x
      rw [← e]
      exact (part_succ 1024 _ _ _).symm
    by_cases p : t.val % 4 = 3
    · rw [outsAt0_C m c t q (by omega) p]
      dsimp only
      rw [scratch_C, ih q, key]
    · rw [outsAt0_B m c t q (by omega) p]
      dsimp only
      rw [scratch_B, ih q, key]

include h0 h1 in
theorem state (n : ℕ) (hn : n < cfg0.N) : (outsAt0 m c n hn).2 = held A B n := by
  induction n with
  | zero => exact state_at m c A B h0 h1 ⟨0, hn⟩ fun q => absurd rfl q
  | succ n ih => exact state_at m c A B h0 h1 ⟨n + 1, hn⟩ fun _ => ih _

include h0 h1 in
theorem written (t : Fin cfg0.N) (q : t.val % 4 = 3) :
    (outsAt0 m c t.val t.isLt).1 = mat 1024 1024 fun r x => dot 4096 (fun s => A s r) (fun s => B s x) := by
  have s := state m c A B h0 h1 t.val t.isLt
  rw [outsAt0_C m c t (by omega) (by omega) q] at s ⊢
  dsimp only at s ⊢
  rw [scratch_C] at s
  rw [out_C, s, last]
  congr 1
  funext r x
  rw [q, part_eq_dot]

include h0 h1 in
theorem result : (dats m 0 c).arrAt 2 cfg0.N = mat 1024 1024 fun r x => dot 4096 (fun s => A s r) (fun s => B s x) := by
  refine (dats m 0 c).arrAt_eq_of_covers 2 _ (by decide +kernel) fun t hf y => ?_
  idx_bounds y
  blk_simp
  rw [after0_2, written m c A B h0 h1 t ((flush0_2 t).mp hf)]
  simp only [mat_at]
  blk_simp [idx2]

open Cert.Reference9Ideal.Read in
theorem reference : val_main_v6 (F := Ideal) (mat 4096 1024 A) (mat 4096 1024 B)
    = mat 1024 1024 fun r x => dot 4096 (fun s => A s r) (fun s => B s x) := by
  funext i
  idx_bounds i
  rw [val_main_v6_apply]
  refine (val_main_v5_apply _ _ i).trans ?_
  rw [val_main_v4_apply, mat_at]
  exact Finset.sum_congr rfl fun k _ => (mul_comm _ _).trans rfl

/-- The two programs end with the same gradient. -/
theorem algebraic : Cert.algebraic_Kernel9Ideal_Reference9Ideal := by
  intro m g m' g' hp hm
  refine ⟨fun c => (dats m 0 c).arrAt 2 cfg0.N, Cert.Kernel9Ideal.Value.run_blocks m g, ?_⟩
  refine (θ_run Cert.Reference9Ideal.defs _ _).mono (fun r h c => ?_) (Cert.Reference9Ideal.Value.run (F := Ideal) m' g')
  obtain ⟨A, h0⟩ := exists_mat 4096 1024 (m ((c : Thread nD τ).loc main_arg0))
  obtain ⟨B, h1⟩ := exists_mat 4096 1024 (m ((c : Thread nD τ).loc main_arg1))
  have k0 := (hm c).1.trans h0
  have k1 := (hm c).2.trans h1
  obtain ⟨a, rest⟩ := h c
  refine ⟨a.trans ?_, rest⟩
  dsimp only
  rw [result m c A B h0 h1, Cert.Reference9Ideal.Read.val_main_v6_eq, k0, k1]
  exact reference A B

/-- The printed program and the one read over the extended reals have the same bodies. -/
theorem defs_eq : Cert.Kernel9.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel9 := fun m ρ _ => by
  rw [defs_eq]
  exact frame (F := Bits) m ρ

theorem frame_ideal : Cert.quiescent_Kernel9Ideal := fun m ρ _ => frame m ρ

theorem frame_reference : Cert.quiescent_Reference9Ideal :=
  fun m ρ _ => (θ_run Cert.Reference9Ideal.defs _ _).mono
    (fun r h => ⟨fun c => (h c).2, sem_eq_zero_of_no_sems (by decide) r.2⟩)
    (Cert.Reference9Ideal.Value.run (F := Ideal) m ρ)

end Cert.Ffn.Square

end
-- ==== Proof.Lay.lean ====
/- Slices of arrays of extended reals written as functions of natural-number indices, and products over two pieces. -/
module

public import proofs.«01_k».proof.Proof.Mat

@[expose] public section

noncomputable section

namespace Cert.Ffn

open Idealize.ShloMosaic Idealize.ShloMosaic.TcCoe
open scoped BigOperators

/-- Every array of rank three is one of this kind. -/
theorem exists_cube (l m n : ℕ) (x : (⟨3, ![l, m, n]⟩ : Shape).Idx → EReal) : ∃ f, x = cube l m n f := by
  refine ⟨fun a b c => if q : a < l ∧ b < m ∧ c < n then x (ix3 ⟨a, q.1⟩ ⟨b, q.2.1⟩ ⟨c, q.2.2⟩) else 0, ?_⟩
  funext j
  rw [cube_at, dif_pos ⟨(j 0).isLt, (j 1).isLt, (j 2).isLt⟩]
  refine congrArg x (funext fun a => ?_)
  match a with
  | ⟨0, _⟩ => rfl
  | ⟨1, _⟩ => rfl
  | ⟨2, _⟩ => rfl

/-- The first matrix of a stack. -/
theorem first_of (l m n : ℕ) (W : ℕ → ℕ → ℕ → EReal) (a : (⟨3, ![l, m, n]⟩ : Shape).Slices ![0, 0, 0] ⟨3, ![1, m, n]⟩)
    (b : (⟨3, ![1, m, n]⟩ : Shape).ShapeCasts ⟨2, ![m, n]⟩) :
    shapeCast _ (extractStridedSlice _ ![0, 0, 0] (cube l m n W) a) b = mat m n (W 0) := by
  funext j
  have hl : 0 < l := by
    have := a.2 0
    exact this
  refine (shapeCast_apply _ b j (ix3 (n0 := 1) (n1 := m) (n2 := n) 0 (j 0) (j 1)) (by
    rw [Shape.rowMajor_val_three, Shape.rowMajor_val_two]
    show ((0 : ℕ) * m + (j 0).val) * n + (j 1).val = (j 0).val * n + (j 1).val
    rw [Nat.zero_mul, Nat.zero_add])).trans ?_
  refine (extractStridedSlice_apply _ _ a _ (ix3 (n0 := l) (n1 := m) (n2 := n) ⟨0, hl⟩ (j 0) (j 1)) (fun a => match a with
    | ⟨0, _⟩ => rfl
    | ⟨1, _⟩ => (Nat.zero_add _).symm
    | ⟨2, _⟩ => (Nat.zero_add _).symm)).trans ?_
  rfl

/-- A product over `p + q` entries is that over the first `p` and that over the last `q`. -/
theorem dot_split (p q n : ℕ) (e : n = p + q) (f g : ℕ → EReal) :
    dot n f g = dot p f g + dot q (fun s => f (p + s)) (fun s => g (p + s)) := by
  subst e
  exact Fin.sum_univ_add fun k : Fin (p + q) => f k.val * g k.val

/-- A row made of two pieces, in a product over both. -/
theorem dot_join (f g h : ℕ → EReal) :
    dot 2048 (fun s => if s < 1024 then f s else g (s - 1024)) h = dot 1024 f h + dot 1024 g fun s => h (1024 + s) := by
  rw [dot_split 1024 1024 2048 rfl]
  refine congrArg₂ (· + ·) ?_ ?_
  · refine Finset.sum_congr rfl fun k _ => ?_
    exact congrArg (· * h k.val) (if_pos k.isLt)
  · refine Finset.sum_congr rfl fun k _ => ?_
    have hk := k.isLt
    refine congrArg (· * h (1024 + k.val)) ?_
    show (if 1024 + k.val < 1024 then f (1024 + k.val) else g (1024 + k.val - 1024)) = g k.val
    rw [if_neg (by omega), Nat.add_sub_cancel_left]

/-- A slice of a matrix. -/
theorem slice_of (m n p q a b : ℕ) (f : ℕ → ℕ → EReal) (e : (⟨2, ![m, n]⟩ : Shape).Slices ![a, b] ⟨2, ![p, q]⟩) :
    extractStridedSlice _ ![a, b] (mat m n f) e = mat p q fun r s => f (a + r) (b + s) := by
  funext j
  have h0 : a + (j 0).val < m := lt_of_lt_of_le (Nat.add_lt_add_left (j 0).isLt a) (e.2 0)
  have h1 : b + (j 1).val < n := lt_of_lt_of_le (Nat.add_lt_add_left (j 1).isLt b) (e.2 1)
  exact extractStridedSlice_apply _ _ e _ (ix2 (n0 := m) (n1 := n) ⟨_, h0⟩ ⟨_, h1⟩) (fun a => match a with
    | ⟨0, _⟩ => rfl
    | ⟨1, _⟩ => rfl)

end Cert.Ffn

end
-- ==== Proof.HybIn.lean ====
/- The hybrid layer's input product, its columns put in the order in which the later calls read them. -/
module

public import proofs.«01_k».proof.Defs
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.Lay
public import Idealize.ShloMosaic.Lib.Pipeline.ValueKit
public import Idealize.ShloMosaic.Lib.Affine

@[expose] public section

set_option maxRecDepth 16384
set_option maxHeartbeats 1600000

noncomputable section

namespace Cert.Ffn.HybIn

open Cert.Kernel10Ideal Cert.Kernel10Ideal.Gen Cert.Ffn Idealize.ShloMosaic Idealize.ShloMosaic.TcCoe Idealize.SL.Sem
open scoped BigOperators

/-- One tile: rows of the activations against a block of the weights. -/
theorem tile (x w : ℕ → ℕ → EReal) : k0_pay1 (F := Ideal) (mat 512 1024 x) (mat 1024 1152 w) = mat 512 1152 fun r s => dot 1024 (x r) (fun k => w k s) := by
  funext j
  idx_bounds j
  pointwise [k0_pay1]
  simp only [mat_at]
  rfl

/-- The columns in the new order: two groups of columns change places, and columns of zeros follow. -/
def order (f : ℕ → EReal) (s : ℕ) : EReal :=
  if s < 2560 then f s else if s < 5632 then f (s + 16) else if s < 5648 then f (s - 3072) else if s < 5656 then f s else 0

/-- Reordering the weights' columns reorders the product's. -/
theorem dot_order (g : ℕ → EReal) (w : ℕ → ℕ → EReal) (s : ℕ) :
    dot 1024 g (fun k => order (w k) s) = order (fun s => dot 1024 g fun k => w k s) s := by
  unfold order
  split_ifs
  · rfl
  · rfl
  · rfl
  · rfl
  · exact Finset.sum_eq_zero fun k _ => mul_zero _

/-- The first layer's weights. -/
def layer (x : Vec Ideal S2x1024x5656 .f32) : Vec Ideal S1024x5656 .bf16 :=
  truncf (F := Ideal) (φ := .f32) .bf16 (shapeCast S1024x5656 (extractStridedSlice S1x1024x5656 ![0, 0, 0] x
    slices_S2x1024x5656_S1x1024x5656_0_0_0) shapeCasts_S1x1024x5656_S1024x5656) bitsLt_bf16_f32

theorem layer_eq (W : ℕ → ℕ → ℕ → EReal) : layer (cube 2 1024 5656 W) = mat 1024 5656 (W 0) := first_of 2 1024 5656 W slices_S2x1024x5656_S1x1024x5656_0_0_0 shapeCasts_S1x1024x5656_S1024x5656

/-- The weights' groups of columns, put together, are the reordered weights. -/
theorem parts (D : ℕ → ℕ → EReal) (z : Vec Ideal S1024x104 .bf16) (hz : ∀ i, z i = 0) : concatenate S1024x5760 1
      [⟨S1024x2560, extractStridedSlice S1024x2560 ![0, 0] (mat 1024 5656 D) slices_S1024x5656_S1024x2560_0_0⟩,
       ⟨S1024x3072, extractStridedSlice S1024x3072 ![0, 2576] (mat 1024 5656 D) slices_S1024x5656_S1024x3072_0_2576⟩,
       ⟨S1024x16, extractStridedSlice S1024x16 ![0, 2560] (mat 1024 5656 D) slices_S1024x5656_S1024x16_0_2560⟩,
       ⟨S1024x8, extractStridedSlice S1024x8 ![0, 5648] (mat 1024 5656 D) slices_S1024x5656_S1024x8_0_5648⟩, ⟨S1024x104, z⟩]
      concatenates_S1024x2560_S1024x3072_S1024x16_S1024x8_S1024x104_S1024x5760_d1 = mat 1024 5760 fun r s => order (D r) s := by
  rw [slice_of 1024 5656 1024 2560, slice_of 1024 5656 1024 3072, slice_of 1024 5656 1024 16, slice_of 1024 5656 1024 8]
  funext j
  idx_bounds j
  pointwise []
  rw [mat_at]
  unfold order
  by_cases q0 : (j 1).val < 2560
  · rw [dif_pos q0, if_pos (show (j 1).val < 2560 by omega)]
    rfl
  rw [dif_neg q0]
  by_cases q2560 : (j 1).val - 2560 < 3072
  · rw [dif_pos q2560, if_neg (show ¬(j 1).val < 2560 by omega), if_pos (show (j 1).val < 5632 by omega)]
    exact congrArg (D (j 0).val) (show 2576 + ((j 1).val - 2560) = (j 1).val + 16 by omega)
  rw [dif_neg q2560]
  by_cases q5632 : (j 1).val - 2560 - 3072 < 16
  · rw [dif_pos q5632, if_neg (show ¬(j 1).val < 2560 by omega), if_neg (show ¬(j 1).val < 5632 by omega), if_pos (show (j 1).val < 5648 by omega)]
    exact congrArg (D (j 0).val) (show 2560 + ((j 1).val - 2560 - 3072) = (j 1).val - 3072 by omega)
  rw [dif_neg q5632]
  by_cases q5648 : (j 1).val - 2560 - 3072 - 16 < 8
  · rw [dif_pos q5648, if_neg (show ¬(j 1).val < 2560 by omega), if_neg (show ¬(j 1).val < 5632 by omega), if_neg (show ¬(j 1).val < 5648 by omega), if_pos (show (j 1).val < 5656 by omega)]
    exact congrArg (D (j 0).val) (show 5648 + ((j 1).val - 2560 - 3072 - 16) = (j 1).val by omega)
  rw [dif_neg q5648]
  rw [hz, if_neg (show ¬(j 1).val < 2560 by omega), if_neg (show ¬(j 1).val < 5632 by omega), if_neg (show ¬(j 1).val < 5648 by omega),
    if_neg (show ¬(j 1).val < 5656 by omega)]

/-- So are the product's. -/
theorem parts' (D : ℕ → ℕ → EReal) (z : Vec Ideal Cert.Reference10Ideal.S4096x104 .f32) (hz : ∀ i, z i = 0) : concatenate Cert.Reference10Ideal.S4096x5760 1
      [⟨Cert.Reference10Ideal.S4096x1024, extractStridedSlice Cert.Reference10Ideal.S4096x1024 ![0, 0] (mat 4096 5656 D) Cert.Reference10Ideal.Gen.slices_S4096x5656_S4096x1024_0_0⟩,
       ⟨Cert.Reference10Ideal.S4096x1536, extractStridedSlice Cert.Reference10Ideal.S4096x1536 ![0, 1024] (mat 4096 5656 D) Cert.Reference10Ideal.Gen.slices_S4096x5656_S4096x1536_0_1024⟩,
       ⟨Cert.Reference10Ideal.S4096x1024, extractStridedSlice Cert.Reference10Ideal.S4096x1024 ![0, 2576] (mat 4096 5656 D) Cert.Reference10Ideal.Gen.slices_S4096x5656_S4096x1024_0_2576⟩,
       ⟨Cert.Reference10Ideal.S4096x1024, extractStridedSlice Cert.Reference10Ideal.S4096x1024 ![0, 3600] (mat 4096 5656 D) Cert.Reference10Ideal.Gen.slices_S4096x5656_S4096x1024_0_3600⟩,
       ⟨Cert.Reference10Ideal.S4096x1024, extractStridedSlice Cert.Reference10Ideal.S4096x1024 ![0, 4624] (mat 4096 5656 D) Cert.Reference10Ideal.Gen.slices_S4096x5656_S4096x1024_0_4624⟩,
       ⟨Cert.Reference10Ideal.S4096x16, extractStridedSlice Cert.Reference10Ideal.S4096x16 ![0, 2560] (mat 4096 5656 D) Cert.Reference10Ideal.Gen.slices_S4096x5656_S4096x16_0_2560⟩,
       ⟨Cert.Reference10Ideal.S4096x8, extractStridedSlice Cert.Reference10Ideal.S4096x8 ![0, 5648] (mat 4096 5656 D) Cert.Reference10Ideal.Gen.slices_S4096x5656_S4096x8_0_5648⟩, ⟨Cert.Reference10Ideal.S4096x104, z⟩]
      Cert.Reference10Ideal.Gen.concatenates_S4096x1024_S4096x1536_S4096x1024_S4096x1024_S4096x1024_S4096x16_S4096x8_S4096x104_S4096x5760_d1
    = mat 4096 5760 fun r s => order (D r) s := by
  rw [slice_of 4096 5656 4096 1024 0 0, slice_of 4096 5656 4096 1536, slice_of 4096 5656 4096 1024 0 2576, slice_of 4096 5656 4096 1024 0 3600,
    slice_of 4096 5656 4096 1024 0 4624, slice_of 4096 5656 4096 16, slice_of 4096 5656 4096 8]
  funext j
  idx_bounds j
  pointwise []
  rw [mat_at]
  unfold order
  by_cases q0 : (j 1).val < 1024
  · rw [dif_pos q0, if_pos (show (j 1).val < 2560 by omega)]
    rfl
  rw [dif_neg q0]
  by_cases q1024 : (j 1).val - 1024 < 1536
  · rw [dif_pos q1024, if_pos (show (j 1).val < 2560 by omega)]
    exact congrArg (D (j 0).val) (show 1024 + ((j 1).val - 1024) = (j 1).val by omega)
  rw [dif_neg q1024]
  by_cases q2560 : (j 1).val - 1024 - 1536 < 1024
  · rw [dif_pos q2560, if_neg (show ¬(j 1).val < 2560 by omega), if_pos (show (j 1).val < 5632 by omega)]
    exact congrArg (D (j 0).val) (show 2576 + ((j 1).val - 1024 - 1536) = (j 1).val + 16 by omega)
  rw [dif_neg q2560]
  by_cases q3584 : (j 1).val - 1024 - 1536 - 1024 < 1024
  · rw [dif_pos q3584, if_neg (show ¬(j 1).val < 2560 by omega), if_pos (show (j 1).val < 5632 by omega)]
    exact congrArg (D (j 0).val) (show 3600 + ((j 1).val - 1024 - 1536 - 1024) = (j 1).val + 16 by omega)
  rw [dif_neg q3584]
  by_cases q4608 : (j 1).val - 1024 - 1536 - 1024 - 1024 < 1024
  · rw [dif_pos q4608, if_neg (show ¬(j 1).val < 2560 by omega), if_pos (show (j 1).val < 5632 by omega)]
    exact congrArg (D (j 0).val) (show 4624 + ((j 1).val - 1024 - 1536 - 1024 - 1024) = (j 1).val + 16 by omega)
  rw [dif_neg q4608]
  by_cases q5632 : (j 1).val - 1024 - 1536 - 1024 - 1024 - 1024 < 16
  · rw [dif_pos q5632, if_neg (show ¬(j 1).val < 2560 by omega), if_neg (show ¬(j 1).val < 5632 by omega), if_pos (show (j 1).val < 5648 by omega)]
    exact congrArg (D (j 0).val) (show 2560 + ((j 1).val - 1024 - 1536 - 1024 - 1024 - 1024) = (j 1).val - 3072 by omega)
  rw [dif_neg q5632]
  by_cases q5648 : (j 1).val - 1024 - 1536 - 1024 - 1024 - 1024 - 16 < 8
  · rw [dif_pos q5648, if_neg (show ¬(j 1).val < 2560 by omega), if_neg (show ¬(j 1).val < 5632 by omega), if_neg (show ¬(j 1).val < 5648 by omega), if_pos (show (j 1).val < 5656 by omega)]
    exact congrArg (D (j 0).val) (show 5648 + ((j 1).val - 1024 - 1536 - 1024 - 1024 - 1024 - 16) = (j 1).val by omega)
  rw [dif_neg q5648]
  rw [hz, if_neg (show ¬(j 1).val < 2560 by omega), if_neg (show ¬(j 1).val < 5632 by omega), if_neg (show ¬(j 1).val < 5648 by omega),
    if_neg (show ¬(j 1).val < 5656 by omega)]

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)

variable (m : (ℓ : Loc nD τ sig) → Buf (Elt Ideal) ℓ) (c : Dev nD) (W : ℕ → ℕ → ℕ → EReal) (G : ℕ → ℕ → EReal)
  (h0 : m ((c : Thread nD τ).loc main_arg0) = mat 4096 1024 G) (h1 : m ((c : Thread nD τ).loc main_arg1) = cube 2 1024 5656 W)

include h1 in
/-- The first layer's weights, reordered. -/
theorem entry_w : V m c main_v8 = mat 1024 5760 fun k s => order (W 0 k) s := by
  have e : V m c main_v8 = concatenate S1024x5760 1
      [⟨S1024x2560, extractStridedSlice S1024x2560 ![0, 0] (layer (m ((c : Thread nD τ).loc main_arg1))) slices_S1024x5656_S1024x2560_0_0⟩,
       ⟨S1024x3072, extractStridedSlice S1024x3072 ![0, 2576] (layer (m ((c : Thread nD τ).loc main_arg1))) slices_S1024x5656_S1024x3072_0_2576⟩,
       ⟨S1024x16, extractStridedSlice S1024x16 ![0, 2560] (layer (m ((c : Thread nD τ).loc main_arg1))) slices_S1024x5656_S1024x16_0_2560⟩,
       ⟨S1024x8, extractStridedSlice S1024x8 ![0, 5648] (layer (m ((c : Thread nD τ).loc main_arg1))) slices_S1024x5656_S1024x8_0_5648⟩,
       ⟨S1024x104, broadcastInDim S1024x104 ![] bcast_S_S1024x104 (constant (F := Ideal) S_ .bf16 0x0000#16)⟩]
      concatenates_S1024x2560_S1024x3072_S1024x16_S1024x8_S1024x104_S1024x5760_d1 := by
    unfold V layer
    simp only [hostOps0, List.flatten_cons, List.flatten_nil, List.append_nil, List.cons_append, List.nil_append]
    after_results <;> rfl
  rw [e, h1, layer_eq]
  exact parts (W 0) _ fun i => by
    pointwise []

include h0 in
theorem block0 (t : Fin cfg0.N) : iblk m c 0 t = mat 512 1024 fun r k => G (512 * (t.val % 8) + r) k := by
  funext y
  idx_bounds y
  blk_simp [iblk]
  rw [V_main_arg0 m c, h0]
  simp only [mat_at]
  blk_simp [idx0]
  congr 1 <;> omega

include h1 in
theorem block1 (t : Fin cfg0.N) : iblk m c 1 t = mat 1024 1152 fun k s => order (W 0 k) (1152 * (t.val / 8) + s) := by
  funext y
  idx_bounds y
  blk_simp [iblk]
  rw [entry_w m c W h1]
  simp only [mat_at]
  blk_simp [idx1]
  have a : t.val / 8 * 1152 + (y 1).val = 1152 * (t.val / 8) + (y 1).val := by omega
  rw [a]

omit m c W G h0 h1 in
theorem out_eq (x0 : Vec Ideal S512x1024 .bf16) (x1 : Vec Ideal S1024x1152 .bf16) : out0_2 x0 x1 = k0_pay1 x0 x1 := by
  unfold out0_2
  refine (View.canon_cons_unit_lit _ _ _ (by decide)).trans ?_
  rw [View.ld_unit_lit _ _ (by decide), View.ld_unit_lit _ _ (by decide)]

include h0 h1 in
theorem result : (dats m 0 c).arrAt 2 cfg0.N = mat 4096 5760 fun r s => order (fun s => dot 1024 (G r) fun k => W 0 k s) s := by
  refine (dats m 0 c).arrAt_eq_of_covers 2 _ (by decide +kernel) fun t hf y => ?_
  idx_bounds y
  blk_simp
  rw [after0_2, block0 m c G h0, block1 m c W h1, out_eq, tile]
  simp only [mat_at]
  blk_simp [idx2]
  have a : t.val % 8 * 512 + (y 0).val = 512 * (t.val % 8) + (y 0).val := by omega
  have b : t.val / 8 * 1152 + (y 1).val = 1152 * (t.val / 8) + (y 1).val := by omega
  rw [a, b]
  exact dot_order (G _) (W 0) _

open Cert.Reference10Ideal.Read in
theorem reference : val_main_v12 (F := Ideal) (mat 4096 1024 G) (cube 2 1024 5656 W) = mat 4096 5760 fun r s => order (fun s => dot 1024 (G r) fun k => W 0 k s) s := by
  have p : val_main_v3 (F := Ideal) (mat 4096 1024 G) (cube 2 1024 5656 W) = mat 4096 5656 fun r s => dot 1024 (G r) fun k => W 0 k s := by
    funext i
    idx_bounds i
    have w : val_main_v2 (F := Ideal) (cube 2 1024 5656 W) = mat 1024 5656 (W 0) := first_of 2 1024 5656 W slices_S2x1024x5656_S1x1024x5656_0_0_0 shapeCasts_S1x1024x5656_S1024x5656
    rw [val_main_v3_apply, mat_at, w]
    rfl
  unfold val_main_v12 val_main_v4 val_main_v5 val_main_v6 val_main_v7 val_main_v8 val_main_v9 val_main_v10
  rw [p]
  exact parts' (fun r s => dot 1024 (G r) fun k => W 0 k s) _ fun i => by
    rw [val_main_v11_apply, val_main_cst_apply]
    exact Ideal.ofBits_zero_f32

/-- The two programs end with the same product. -/
theorem algebraic : Cert.algebraic_Kernel10Ideal_Reference10Ideal := by
  intro m g m' g' hp hm
  refine ⟨fun c => (dats m 0 c).arrAt 2 cfg0.N, Cert.Kernel10Ideal.Value.run_blocks m g, ?_⟩
  refine (θ_run Cert.Reference10Ideal.defs _ _).mono (fun r h c => ?_) (Cert.Reference10Ideal.Value.run (F := Ideal) m' g')
  obtain ⟨G, h0⟩ := exists_mat 4096 1024 (m ((c : Thread nD τ).loc main_arg0))
  obtain ⟨W, h1⟩ := exists_cube 2 1024 5656 (m ((c : Thread nD τ).loc main_arg1))
  have k0 := (hm c).1.trans h0
  have k1 := (hm c).2.trans h1
  obtain ⟨a, rest⟩ := h c
  refine ⟨a.trans ?_, rest⟩
  dsimp only
  rw [result m c W G h0 h1, Cert.Reference10Ideal.Read.val_main_v12_eq, k0, k1]
  exact reference W G

/-- The printed program and the one read over the extended reals have the same bodies. -/
theorem defs_eq : Cert.Kernel10.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel10 := fun m ρ _ => by
  rw [defs_eq]
  exact frame (F := Bits) m ρ

theorem frame_ideal : Cert.quiescent_Kernel10Ideal := fun m ρ _ => Cert.Kernel10Ideal.Gen.frame m ρ

theorem frame_reference : Cert.quiescent_Reference10Ideal :=
  fun m ρ _ => (θ_run Cert.Reference10Ideal.defs _ _).mono
    (fun r h => ⟨fun c => (h c).2, sem_eq_zero_of_no_sems (by decide) r.2⟩)
    (Cert.Reference10Ideal.Value.run (F := Ideal) m ρ)

end Cert.Ffn.HybIn

end
-- ==== Proof.Dcat.lean ====
/- The gradient of the hybrid layer's output product in its input: the cotangent against the transposed weights. -/
module

public import proofs.«01_k».proof.Defs
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.Lay
public import Idealize.ShloMosaic.Lib.Pipeline.ValueKit
public import Idealize.ShloMosaic.Lib.Affine

@[expose] public section

set_option maxRecDepth 16384

noncomputable section

namespace Cert.Ffn.Dcat

open Cert.Kernel11Ideal Cert.Kernel11Ideal.Gen Cert.Ffn Idealize.ShloMosaic Idealize.ShloMosaic.TcCoe Idealize.SL.Sem
open scoped BigOperators

/-- One tile: rows of the activations against a block of the weights. -/
theorem tile (x w : ℕ → ℕ → EReal) : k0_pay1 (F := Ideal) (mat 512 1024 x) (mat 1024 1024 w) = mat 512 1024 fun r s => dot 1024 (x r) (w s) := by
  funext j
  idx_bounds j
  pointwise [k0_pay1]
  simp only [mat_at]
  rfl

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val % 8, t.val / 8] := (by decide +kernel : ∀ t : Fin grid0.N, _)

variable (m : (ℓ : Loc nD τ sig) → Buf (Elt Ideal) ℓ) (c : Dev nD) (W : ℕ → ℕ → ℕ → EReal) (G : ℕ → ℕ → EReal)
  (h0 : m ((c : Thread nD τ).loc main_arg0) = mat 4096 1024 G) (h1 : m ((c : Thread nD τ).loc main_arg1) = cube 2 2048 1024 W)

include h1 in
/-- The first layer's weights. -/
theorem entry_w : V m c main_v2 = mat 2048 1024 (W 0) := by
  have e : V m c main_v2 = truncf (F := Ideal) (φ := .f32) .bf16 (shapeCast S2048x1024 (extractStridedSlice S1x2048x1024 ![0, 0, 0]
      (m ((c : Thread nD τ).loc main_arg1)) slices_S2x2048x1024_S1x2048x1024_0_0_0) shapeCasts_S1x2048x1024_S2048x1024) bitsLt_bf16_f32 := by
    unfold V
    simp only [hostOps0, List.flatten_cons, List.flatten_nil, List.append_nil, List.cons_append, List.nil_append]
    entry_read
    rfl
  rw [e, h1]
  exact first_of 2 2048 1024 W slices_S2x2048x1024_S1x2048x1024_0_0_0 shapeCasts_S1x2048x1024_S2048x1024

include h0 in
theorem block0 (t : Fin cfg0.N) : iblk m c 0 t = mat 512 1024 fun r k => G (512 * (t.val % 8) + r) k := by
  funext y
  idx_bounds y
  blk_simp [iblk]
  rw [V_main_arg0 m c, h0]
  simp only [mat_at]
  blk_simp [idx0]
  congr 1 <;> omega

include h1 in
theorem block1 (t : Fin cfg0.N) : iblk m c 1 t = mat 1024 1024 fun r k => W 0 (1024 * (t.val / 8) + r) k := by
  funext y
  idx_bounds y
  blk_simp [iblk]
  rw [entry_w m c W h1]
  simp only [mat_at]
  blk_simp [idx1]
  congr 1 <;> omega

omit m c W G h0 h1 in
theorem out_eq (x0 : Vec Ideal S512x1024 .bf16) (x1 : Vec Ideal S1024x1024 .bf16) : out0_2 x0 x1 = k0_pay1 x0 x1 := by
  unfold out0_2
  refine (View.canon_cons_unit_lit _ _ _ (by decide)).trans ?_
  rw [View.ld_unit_lit _ _ (by decide), View.ld_unit_lit _ _ (by decide)]

include h0 h1 in
theorem result : (dats m 0 c).arrAt 2 cfg0.N = mat 4096 2048 fun r s => dot 1024 (G r) (W 0 s) := by
  refine (dats m 0 c).arrAt_eq_of_covers 2 _ (by decide +kernel) fun t hf y => ?_
  idx_bounds y
  blk_simp
  rw [after0_2, block0 m c G h0, block1 m c W h1, out_eq, tile]
  simp only [mat_at]
  blk_simp [idx2]
  have a : t.val % 8 * 512 + (y 0).val = 512 * (t.val % 8) + (y 0).val := by omega
  have b : t.val / 8 * 1024 + (y 1).val = 1024 * (t.val / 8) + (y 1).val := by omega
  rw [a, b]

open Cert.Reference11Ideal.Read in
theorem reference : val_main_v6 (F := Ideal) (mat 4096 1024 G) (cube 2 2048 1024 W) = mat 4096 2048 fun r s => dot 1024 (G r) (W 0 s) := by
  funext i
  idx_bounds i
  have w : val_main_v2 (F := Ideal) (cube 2 2048 1024 W) = mat 2048 1024 (W 0) := first_of 2 2048 1024 W slices_S2x2048x1024_S1x2048x1024_0_0_0 shapeCasts_S1x2048x1024_S2048x1024
  rw [val_main_v6_apply]
  refine (val_main_v5_apply _ _ i).trans ?_
  rw [mat_at, w]
  rfl

/-- The two programs end with the same product. -/
theorem algebraic : Cert.algebraic_Kernel11Ideal_Reference11Ideal := by
  intro m g m' g' hp hm
  refine ⟨fun c => (dats m 0 c).arrAt 2 cfg0.N, Cert.Kernel11Ideal.Value.run_blocks m g, ?_⟩
  refine (θ_run Cert.Reference11Ideal.defs _ _).mono (fun r h c => ?_) (Cert.Reference11Ideal.Value.run (F := Ideal) m' g')
  obtain ⟨G, h0⟩ := exists_mat 4096 1024 (m ((c : Thread nD τ).loc main_arg0))
  obtain ⟨W, h1⟩ := exists_cube 2 2048 1024 (m ((c : Thread nD τ).loc main_arg1))
  have k0 := (hm c).1.trans h0
  have k1 := (hm c).2.trans h1
  obtain ⟨a, rest⟩ := h c
  refine ⟨a.trans ?_, rest⟩
  dsimp only
  rw [result m c W G h0 h1, Cert.Reference11Ideal.Read.val_main_v6_eq, k0, k1]
  exact reference W G

/-- The printed program and the one read over the extended reals have the same bodies. -/
theorem defs_eq : Cert.Kernel11.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel11 := fun m ρ _ => by
  rw [defs_eq]
  exact frame (F := Bits) m ρ

theorem frame_ideal : Cert.quiescent_Kernel11Ideal := fun m ρ _ => Cert.Kernel11Ideal.Gen.frame m ρ

theorem frame_reference : Cert.quiescent_Reference11Ideal :=
  fun m ρ _ => (θ_run Cert.Reference11Ideal.defs _ _).mono
    (fun r h => ⟨fun c => (h c).2, sem_eq_zero_of_no_sems (by decide) r.2⟩)
    (Cert.Reference11Ideal.Value.run (F := Ideal) m ρ)

end Cert.Ffn.Dcat

end
-- ==== Proof.RecIn.lean ====
/- The recurrent layer's input product. -/
module

public import proofs.«01_k».proof.Defs
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import proofs.«01_k».proof.Proof.Lay
public import Idealize.ShloMosaic.Lib.Pipeline.ValueKit
public import Idealize.ShloMosaic.Lib.Affine

@[expose] public section

set_option maxRecDepth 16384

noncomputable section

namespace Cert.Ffn.RecIn

open Cert.Kernel12Ideal Cert.Kernel12Ideal.Gen Cert.Ffn Idealize.ShloMosaic Idealize.ShloMosaic.TcCoe Idealize.SL.Sem
open scoped BigOperators

/-- One tile: rows of the activations against a block of the weights. -/
theorem tile (x w : ℕ → ℕ → EReal) : k0_pay1 (F := Ideal) (mat 512 1024 x) (mat 1024 1024 w) = mat 512 1024 fun r s => dot 1024 (x r) (fun k => w k s) := by
  funext j
  idx_bounds j
  pointwise [k0_pay1]
  simp only [mat_at]
  rfl

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)

variable (m : (ℓ : Loc nD τ sig) → Buf (Elt Ideal) ℓ) (c : Dev nD) (W : ℕ → ℕ → ℕ → EReal) (G : ℕ → ℕ → EReal)
  (h0 : m ((c : Thread nD τ).loc main_arg0) = mat 4096 1024 G) (h1 : m ((c : Thread nD τ).loc main_arg1) = cube 2 1024 2048 W)

include h1 in
/-- The first layer's weights. -/
theorem entry_w : V m c main_v2 = mat 1024 2048 (W 0) := by
  have e : V m c main_v2 = truncf (F := Ideal) (φ := .f32) .bf16 (shapeCast S1024x2048 (extractStridedSlice S1x1024x2048 ![0, 0, 0]
      (m ((c : Thread nD τ).loc main_arg1)) slices_S2x1024x2048_S1x1024x2048_0_0_0) shapeCasts_S1x1024x2048_S1024x2048) bitsLt_bf16_f32 := by
    unfold V
    simp only [hostOps0, List.flatten_cons, List.flatten_nil, List.append_nil, List.cons_append, List.nil_append]
    entry_read
    rfl
  rw [e, h1]
  exact first_of 2 1024 2048 W slices_S2x1024x2048_S1x1024x2048_0_0_0 shapeCasts_S1x1024x2048_S1024x2048

include h0 in
theorem block0 (t : Fin cfg0.N) : iblk m c 0 t = mat 512 1024 fun r k => G (512 * (t.val % 8) + r) k := by
  funext y
  idx_bounds y
  blk_simp [iblk]
  rw [V_main_arg0 m c, h0]
  simp only [mat_at]
  blk_simp [idx0]
  congr 1 <;> omega

include h1 in
theorem block1 (t : Fin cfg0.N) : iblk m c 1 t = mat 1024 1024 fun k s => W 0 k (1024 * (t.val / 8) + s) := by
  funext y
  idx_bounds y
  blk_simp [iblk]
  rw [entry_w m c W h1]
  simp only [mat_at]
  blk_simp [idx1]
  congr 1 <;> omega

omit m c W G h0 h1 in
theorem out_eq (x0 : Vec Ideal S512x1024 .bf16) (x1 : Vec Ideal S1024x1024 .bf16) : out0_2 x0 x1 = k0_pay1 x0 x1 := by
  unfold out0_2
  refine (View.canon_cons_unit_lit _ _ _ (by decide)).trans ?_
  rw [View.ld_unit_lit _ _ (by decide), View.ld_unit_lit _ _ (by decide)]

include h0 h1 in
theorem result : (dats m 0 c).arrAt 2 cfg0.N = mat 4096 2048 fun r s => dot 1024 (G r) (fun k => W 0 k s) := by
  refine (dats m 0 c).arrAt_eq_of_covers 2 _ (by decide +kernel) fun t hf y => ?_
  idx_bounds y
  blk_simp
  rw [after0_2, block0 m c G h0, block1 m c W h1, out_eq, tile]
  simp only [mat_at]
  blk_simp [idx2]
  have a : t.val % 8 * 512 + (y 0).val = 512 * (t.val % 8) + (y 0).val := by omega
  have b : t.val / 8 * 1024 + (y 1).val = 1024 * (t.val / 8) + (y 1).val := by omega
  rw [a, b]

open Cert.Reference12Ideal.Read in
theorem reference : val_main_v3 (F := Ideal) (mat 4096 1024 G) (cube 2 1024 2048 W) = mat 4096 2048 fun r s => dot 1024 (G r) (fun k => W 0 k s) := by
  funext i
  idx_bounds i
  have w : val_main_v2 (F := Ideal) (cube 2 1024 2048 W) = mat 1024 2048 (W 0) := first_of 2 1024 2048 W slices_S2x1024x2048_S1x1024x2048_0_0_0 shapeCasts_S1x1024x2048_S1024x2048
  rw [val_main_v3_apply, mat_at, w]
  rfl

/-- The two programs end with the same product. -/
theorem algebraic : Cert.algebraic_Kernel12Ideal_Reference12Ideal := by
  intro m g m' g' hp hm
  refine ⟨fun c => (dats m 0 c).arrAt 2 cfg0.N, Cert.Kernel12Ideal.Value.run_blocks m g, ?_⟩
  refine (θ_run Cert.Reference12Ideal.defs _ _).mono (fun r h c => ?_) (Cert.Reference12Ideal.Value.run (F := Ideal) m' g')
  obtain ⟨G, h0⟩ := exists_mat 4096 1024 (m ((c : Thread nD τ).loc main_arg0))
  obtain ⟨W, h1⟩ := exists_cube 2 1024 2048 (m ((c : Thread nD τ).loc main_arg1))
  have k0 := (hm c).1.trans h0
  have k1 := (hm c).2.trans h1
  obtain ⟨a, rest⟩ := h c
  refine ⟨a.trans ?_, rest⟩
  dsimp only
  rw [result m c W G h0 h1, Cert.Reference12Ideal.Read.val_main_v3_eq, k0, k1]
  exact reference W G

/-- The printed program and the one read over the extended reals have the same bodies. -/
theorem defs_eq : Cert.Kernel12.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel12 := fun m ρ _ => by
  rw [defs_eq]
  exact frame (F := Bits) m ρ

theorem frame_ideal : Cert.quiescent_Kernel12Ideal := fun m ρ _ => Cert.Kernel12Ideal.Gen.frame m ρ

theorem frame_reference : Cert.quiescent_Reference12Ideal :=
  fun m ρ _ => (θ_run Cert.Reference12Ideal.defs _ _).mono
    (fun r h => ⟨fun c => (h c).2, sem_eq_zero_of_no_sems (by decide) r.2⟩)
    (Cert.Reference12Ideal.Value.run (F := Ideal) m ρ)

end Cert.Ffn.RecIn

end
-- ==== Proof.HybOut.lean ====
/- The hybrid layer's output product, of two pieces against the two halves of the weights. -/
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.Lay
public import Idealize.ShloMosaic.Lib.Pipeline.ValueKit
public import Idealize.ShloMosaic.Lib.Affine

@[expose] public section

set_option maxRecDepth 16384

noncomputable section

namespace Cert.Ffn.HybOut

open Cert.Kernel13Ideal Cert.Kernel13Ideal.Gen Cert.Ffn Idealize.ShloMosaic Idealize.ShloMosaic.TcCoe Idealize.SL.Sem
open scoped BigOperators

/-- One tile: rows of the two pieces, each against its own half of the weights. -/
theorem tile (x w y v : ℕ → ℕ → EReal) : k0_pay1 (F := Ideal) (mat 512 1024 x) (mat 1024 1024 w) (mat 512 1024 y) (mat 1024 1024 v)
    = mat 512 1024 fun r s => dot 1024 (x r) (fun k => w k s) + dot 1024 (y r) (fun k => v k s) := by
  funext j
  idx_bounds j
  pointwise [k0_pay1]
  simp only [mat_at]
  rfl

/-- The first layer's weights. -/
def layer (x : Vec Ideal S2x2048x1024 .f32) : Vec Ideal S2048x1024 .bf16 :=
  truncf (F := Ideal) (φ := .f32) .bf16 (shapeCast S2048x1024 (extractStridedSlice S1x2048x1024 ![0, 0, 0] x
    slices_S2x2048x1024_S1x2048x1024_0_0_0) shapeCasts_S1x2048x1024_S2048x1024) bitsLt_bf16_f32

theorem layer_eq (W : ℕ → ℕ → ℕ → EReal) : layer (cube 2 2048 1024 W) = mat 2048 1024 (W 0) :=
  first_of 2 2048 1024 W slices_S2x2048x1024_S1x2048x1024_0_0_0 shapeCasts_S1x2048x1024_S2048x1024

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

variable (m : (ℓ : Loc nD τ sig) → Buf (Elt Ideal) ℓ) (c : Dev nD) (W : ℕ → ℕ → ℕ → EReal) (G H : ℕ → ℕ → EReal)
  (h0 : m ((c : Thread nD τ).loc main_arg0) = mat 4096 1024 G) (h1 : m ((c : Thread nD τ).loc main_arg1) = mat 4096 1024 H)
  (h2 : m ((c : Thread nD τ).loc main_arg2) = cube 2 2048 1024 W)

include h2 in
/-- The first half of the first layer's weights. -/
theorem entry_w : V m c main_v3 = mat 1024 1024 (W 0) := by
  have e : V m c main_v3 = extractStridedSlice S1024x1024 ![0, 0] (layer (m ((c : Thread nD τ).loc main_arg2))) slices_S2048x1024_S1024x1024_0_0 := by
    unfold V layer
    simp only [hostOps0, List.flatten_cons, List.flatten_nil, List.append_nil, List.cons_append, List.nil_append]
    entry_read
    rfl
  rw [e, h2]
  rw [layer_eq]
  refine (slice_of 2048 1024 1024 1024 0 0 (W 0) slices_S2048x1024_S1024x1024_0_0).trans ?_
  simp only [Nat.zero_add]

include h2 in
/-- The second half. -/
theorem entry_v : V m c main_v4 = mat 1024 1024 fun r s => W 0 (1024 + r) (0 + s) := by
  have e : V m c main_v4 = extractStridedSlice S1024x1024 ![1024, 0] (layer (m ((c : Thread nD τ).loc main_arg2))) slices_S2048x1024_S1024x1024_1024_0 := by
    unfold V layer
    simp only [hostOps0, List.flatten_cons, List.flatten_nil, List.append_nil, List.cons_append, List.nil_append]
    entry_read
    rfl
  rw [e, h2]
  rw [layer_eq]
  exact slice_of 2048 1024 1024 1024 1024 0 (W 0) slices_S2048x1024_S1024x1024_1024_0

include h0 in
theorem block0 (t : Fin cfg0.N) : iblk m c 0 t = mat 512 1024 fun r k => G (512 * t.val + r) k := by
  funext y
  idx_bounds y
  blk_simp [iblk]
  rw [V_main_arg0 m c, h0]
  simp only [mat_at]
  blk_simp [idx0]
  congr 1 <;> omega

include h2 in
theorem block1 (t : Fin cfg0.N) : iblk m c 1 t = mat 1024 1024 (W 0) := by
  funext y
  idx_bounds y
  blk_simp [iblk]
  rw [entry_w m c W h2]
  simp only [mat_at]
  blk_simp [idx1]

include h1 in
theorem block2 (t : Fin cfg0.N) : iblk m c 2 t = mat 512 1024 fun r k => H (512 * t.val + r) k := by
  funext y
  idx_bounds y
  blk_simp [iblk]
  rw [V_main_arg1 m c, h1]
  simp only [mat_at]
  blk_simp [idx2]
  congr 1 <;> omega

include h2 in
theorem block3 (t : Fin cfg0.N) : iblk m c 3 t = mat 1024 1024 fun r s => W 0 (1024 + r) (0 + s) := by
  funext y
  idx_bounds y
  blk_simp [iblk]
  rw [entry_v m c W h2]
  simp only [mat_at]
  blk_simp [idx3]

omit m c W G H h0 h1 h2 in
theorem out_eq (x0 x2 : Vec Ideal S512x1024 .bf16) (x1 x3 : Vec Ideal S1024x1024 .bf16) : out0_4 x0 x1 x2 x3 = k0_pay1 x0 x1 x2 x3 := by
  unfold out0_4
  refine (View.canon_cons_unit_lit _ _ _ (by decide)).trans ?_
  rw [View.ld_unit_lit _ _ (by decide), View.ld_unit_lit _ _ (by decide), View.ld_unit_lit _ _ (by decide), View.ld_unit_lit _ _ (by decide)]

include h0 h1 h2 in
theorem result : (dats m 0 c).arrAt 4 cfg0.N = mat 4096 1024 fun r s => dot 1024 (G r) (fun k => W 0 k s) + dot 1024 (H r) (fun k => W 0 (1024 + k) s) := by
  refine (dats m 0 c).arrAt_eq_of_covers 4 _ (by decide +kernel) fun t hf y => ?_
  idx_bounds y
  blk_simp
  rw [after0_4, block0 m c G h0, block1 m c W h2, block2 m c H h1, block3 m c W h2, out_eq, tile]
  simp only [mat_at]
  blk_simp [idx4]
  have a : t.val * 512 + (y 0).val = 512 * t.val + (y 0).val := by omega
  rw [a]

open Cert.Reference13Ideal.Read in
theorem reference : val_main_v5 (F := Ideal) (mat 4096 1024 G) (mat 4096 1024 H) (cube 2 2048 1024 W)
    = mat 4096 1024 fun r s => dot 1024 (G r) (fun k => W 0 k s) + dot 1024 (H r) (fun k => W 0 (1024 + k) s) := by
  have w : val_main_v4 (F := Ideal) (cube 2 2048 1024 W) = mat 2048 1024 (W 0) := first_of 2 2048 1024 W slices_S2x2048x1024_S1x2048x1024_0_0_0 shapeCasts_S1x2048x1024_S2048x1024
  have x : val_main_v2 (F := Ideal) (mat 4096 1024 G) (mat 4096 1024 H) = mat 4096 2048 fun r s => if s < 1024 then G r s else H r (s - 1024) := by
    funext i
    idx_bounds i
    pointwise [val_main_v2, val_main_v0, val_main_v1]
    simp only [mat_at]
    by_cases q : (i 1).val < 1024
    · rw [dif_pos q, if_pos q]
      rfl
    · rw [dif_neg q, if_neg q]
      rfl
  funext i
  idx_bounds i
  rw [val_main_v5_apply, mat_at, w, x]
  exact dot_join (G (i 0).val) (H (i 0).val) fun k => W 0 k (i 1).val

/-- The two programs end with the same product. -/
theorem algebraic : Cert.algebraic_Kernel13Ideal_Reference13Ideal := by
  intro m g m' g' hp hm
  refine ⟨fun c => (dats m 0 c).arrAt 4 cfg0.N, Cert.Kernel13Ideal.Value.run_blocks m g, ?_⟩
  refine (θ_run Cert.Reference13Ideal.defs _ _).mono (fun r h c => ?_) (Cert.Reference13Ideal.Value.run (F := Ideal) m' g')
  obtain ⟨G, h0⟩ := exists_mat 4096 1024 (m ((c : Thread nD τ).loc main_arg0))
  obtain ⟨H, h1⟩ := exists_mat 4096 1024 (m ((c : Thread nD τ).loc main_arg1))
  obtain ⟨W, h2⟩ := exists_cube 2 2048 1024 (m ((c : Thread nD τ).loc main_arg2))
  have k0 := (hm c).1.trans h0
  have k1 := (hm c).2.1.trans h1
  have k2 := (hm c).2.2.trans h2
  obtain ⟨a, rest⟩ := h c
  refine ⟨a.trans ?_, rest⟩
  dsimp only
  rw [result m c W G H h0 h1 h2, Cert.Reference13Ideal.Read.val_main_v5_eq, k0, k1, k2]
  exact reference W G H

/-- The printed program and the one read over the extended reals have the same bodies. -/
theorem defs_eq : Cert.Kernel13.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel13 := fun m ρ _ => by
  rw [defs_eq]
  exact frame (F := Bits) m ρ

theorem frame_ideal : Cert.quiescent_Kernel13Ideal := fun m ρ _ => Cert.Kernel13Ideal.Gen.frame m ρ

theorem frame_reference : Cert.quiescent_Reference13Ideal :=
  fun m ρ _ => (θ_run Cert.Reference13Ideal.defs _ _).mono
    (fun r h => ⟨fun c => (h c).2, sem_eq_zero_of_no_sems (by decide) r.2⟩)
    (Cert.Reference13Ideal.Value.run (F := Ideal) m ρ)

end Cert.Ffn.HybOut

end
-- ==== Proof.RecDn.lean ====
/- The gradient of the recurrent layer's input product in its input, of two pieces against the two halves of the transposed weights. -/
module

public import proofs.«01_k».proof.Defs
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import proofs.«01_k».proof.Proof.Lay
public import Idealize.ShloMosaic.Lib.Pipeline.ValueKit
public import Idealize.ShloMosaic.Lib.Affine

@[expose] public section

set_option maxRecDepth 16384

noncomputable section

namespace Cert.Ffn.RecDn

open Cert.Kernel14Ideal Cert.Kernel14Ideal.Gen Cert.Ffn Idealize.ShloMosaic Idealize.ShloMosaic.TcCoe Idealize.SL.Sem
open scoped BigOperators

/-- One tile: rows of the two pieces, each against its own half of the weights. -/
theorem tile (x w y v : ℕ → ℕ → EReal) : k0_pay1 (F := Ideal) (mat 512 1024 x) (mat 1024 1024 w) (mat 512 1024 y) (mat 1024 1024 v)
    = mat 512 1024 fun r s => dot 1024 (x r) (w s) + dot 1024 (y r) (v s) := by
  funext j
  idx_bounds j
  pointwise [k0_pay1]
  simp only [mat_at]
  rfl

/-- The first layer's weights. -/
def layer (x : Vec Ideal S2x1024x2048 .f32) : Vec Ideal S1024x2048 .bf16 :=
  truncf (F := Ideal) (φ := .f32) .bf16 (shapeCast S1024x2048 (extractStridedSlice S1x1024x2048 ![0, 0, 0] x
    slices_S2x1024x2048_S1x1024x2048_0_0_0) shapeCasts_S1x1024x2048_S1024x2048) bitsLt_bf16_f32

theorem layer_eq (W : ℕ → ℕ → ℕ → EReal) : layer (cube 2 1024 2048 W) = mat 1024 2048 (W 0) :=
  first_of 2 1024 2048 W slices_S2x1024x2048_S1x1024x2048_0_0_0 shapeCasts_S1x1024x2048_S1024x2048

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

variable (m : (ℓ : Loc nD τ sig) → Buf (Elt Ideal) ℓ) (c : Dev nD) (W : ℕ → ℕ → ℕ → EReal) (G H : ℕ → ℕ → EReal)
  (h0 : m ((c : Thread nD τ).loc main_arg0) = mat 4096 1024 G) (h1 : m ((c : Thread nD τ).loc main_arg1) = mat 4096 1024 H)
  (h2 : m ((c : Thread nD τ).loc main_arg2) = cube 2 1024 2048 W)

include h2 in
/-- The first half of the first layer's weights. -/
theorem entry_w : V m c main_v3 = mat 1024 1024 (W 0) := by
  have e : V m c main_v3 = extractStridedSlice S1024x1024 ![0, 0] (layer (m ((c : Thread nD τ).loc main_arg2))) slices_S1024x2048_S1024x1024_0_0 := by
    unfold V layer
    simp only [hostOps0, List.flatten_cons, List.flatten_nil, List.append_nil, List.cons_append, List.nil_append]
    entry_read
    rfl
  rw [e, h2]
  rw [layer_eq]
  refine (slice_of 1024 2048 1024 1024 0 0 (W 0) slices_S1024x2048_S1024x1024_0_0).trans ?_
  simp only [Nat.zero_add]

include h2 in
/-- The second half. -/
theorem entry_v : V m c main_v4 = mat 1024 1024 fun r s => W 0 (0 + r) (1024 + s) := by
  have e : V m c main_v4 = extractStridedSlice S1024x1024 ![0, 1024] (layer (m ((c : Thread nD τ).loc main_arg2))) slices_S1024x2048_S1024x1024_0_1024 := by
    unfold V layer
    simp only [hostOps0, List.flatten_cons, List.flatten_nil, List.append_nil, List.cons_append, List.nil_append]
    entry_read
    rfl
  rw [e, h2]
  rw [layer_eq]
  exact slice_of 1024 2048 1024 1024 0 1024 (W 0) slices_S1024x2048_S1024x1024_0_1024

include h0 in
theorem block0 (t : Fin cfg0.N) : iblk m c 0 t = mat 512 1024 fun r k => G (512 * t.val + r) k := by
  funext y
  idx_bounds y
  blk_simp [iblk]
  rw [V_main_arg0 m c, h0]
  simp only [mat_at]
  blk_simp [idx0]
  congr 1 <;> omega

include h2 in
theorem block1 (t : Fin cfg0.N) : iblk m c 1 t = mat 1024 1024 (W 0) := by
  funext y
  idx_bounds y
  blk_simp [iblk]
  rw [entry_w m c W h2]
  simp only [mat_at]
  blk_simp [idx1]

include h1 in
theorem block2 (t : Fin cfg0.N) : iblk m c 2 t = mat 512 1024 fun r k => H (512 * t.val + r) k := by
  funext y
  idx_bounds y
  blk_simp [iblk]
  rw [V_main_arg1 m c, h1]
  simp only [mat_at]
  blk_simp [idx2]
  congr 1 <;> omega

include h2 in
theorem block3 (t : Fin cfg0.N) : iblk m c 3 t = mat 1024 1024 fun r s => W 0 (0 + r) (1024 + s) := by
  funext y
  idx_bounds y
  blk_simp [iblk]
  rw [entry_v m c W h2]
  simp only [mat_at]
  blk_simp [idx3]

omit m c W G H h0 h1 h2 in
theorem out_eq (x0 x2 : Vec Ideal S512x1024 .bf16) (x1 x3 : Vec Ideal S1024x1024 .bf16) : out0_4 x0 x1 x2 x3 = k0_pay1 x0 x1 x2 x3 := by
  unfold out0_4
  refine (View.canon_cons_unit_lit _ _ _ (by decide)).trans ?_
  rw [View.ld_unit_lit _ _ (by decide), View.ld_unit_lit _ _ (by decide), View.ld_unit_lit _ _ (by decide), View.ld_unit_lit _ _ (by decide)]

include h0 h1 h2 in
theorem result : (dats m 0 c).arrAt 4 cfg0.N = mat 4096 1024 fun r s => dot 1024 (G r) (W 0 s) + dot 1024 (H r) (fun k => W 0 s (1024 + k)) := by
  refine (dats m 0 c).arrAt_eq_of_covers 4 _ (by decide +kernel) fun t hf y => ?_
  idx_bounds y
  blk_simp
  rw [after0_4, block0 m c G h0, block1 m c W h2, block2 m c H h1, block3 m c W h2, out_eq, tile]
  simp only [mat_at]
  blk_simp [idx4]
  have a : t.val * 512 + (y 0).val = 512 * t.val + (y 0).val := by omega
  rw [a]

open Cert.Reference14Ideal.Read in
theorem reference : val_main_v6 (F := Ideal) (mat 4096 1024 G) (mat 4096 1024 H) (cube 2 1024 2048 W)
    = mat 4096 1024 fun r s => dot 1024 (G r) (W 0 s) + dot 1024 (H r) (fun k => W 0 s (1024 + k)) := by
  have w : val_main_v2 (F := Ideal) (cube 2 1024 2048 W) = mat 1024 2048 (W 0) := first_of 2 1024 2048 W slices_S2x1024x2048_S1x1024x2048_0_0_0 shapeCasts_S1x1024x2048_S1024x2048
  have x : val_main_v5 (F := Ideal) (mat 4096 1024 G) (mat 4096 1024 H) = mat 4096 2048 fun r s => if s < 1024 then G r s else H r (s - 1024) := by
    funext i
    idx_bounds i
    pointwise [val_main_v5, val_main_v4]
    simp only [mat_at]
    by_cases q : (i 1).val < 1024
    · rw [dif_pos q, if_pos q]
      rfl
    · rw [dif_neg q, if_neg q]
      rfl
  funext i
  idx_bounds i
  rw [val_main_v6_apply, mat_at, w, x]
  exact dot_join (G (i 0).val) (H (i 0).val) (W 0 (i 1).val)

/-- The two programs end with the same product. -/
theorem algebraic : Cert.algebraic_Kernel14Ideal_Reference14Ideal := by
  intro m g m' g' hp hm
  refine ⟨fun c => (dats m 0 c).arrAt 4 cfg0.N, Cert.Kernel14Ideal.Value.run_blocks m g, ?_⟩
  refine (θ_run Cert.Reference14Ideal.defs _ _).mono (fun r h c => ?_) (Cert.Reference14Ideal.Value.run (F := Ideal) m' g')
  obtain ⟨G, h0⟩ := exists_mat 4096 1024 (m ((c : Thread nD τ).loc main_arg0))
  obtain ⟨H, h1⟩ := exists_mat 4096 1024 (m ((c : Thread nD τ).loc main_arg1))
  obtain ⟨W, h2⟩ := exists_cube 2 1024 2048 (m ((c : Thread nD τ).loc main_arg2))
  have k0 := (hm c).1.trans h0
  have k1 := (hm c).2.1.trans h1
  have k2 := (hm c).2.2.trans h2
  obtain ⟨a, rest⟩ := h c
  refine ⟨a.trans ?_, rest⟩
  dsimp only
  rw [result m c W G H h0 h1 h2, Cert.Reference14Ideal.Read.val_main_v6_eq, k0, k1, k2]
  exact reference W G H

/-- The printed program and the one read over the extended reals have the same bodies. -/
theorem defs_eq : Cert.Kernel14.defs (F := Bits) = defs (F := Bits) := by
  refine congrArg (Pipeline.defs pcfgs) (congrArg Defs.onTc (funext fun l => funext fun a => ?_))
  match l, a with
  | 0, (t, s) => rfl

/-- The call runs, keeps its arguments, and leaves no semaphore counting. -/
theorem frame_kernel : Cert.quiescent_Kernel14 := fun m ρ _ => by
  rw [defs_eq]
  exact frame (F := Bits) m ρ

theorem frame_ideal : Cert.quiescent_Kernel14Ideal := fun m ρ _ => Cert.Kernel14Ideal.Gen.frame m ρ

theorem frame_reference : Cert.quiescent_Reference14Ideal :=
  fun m ρ _ => (θ_run Cert.Reference14Ideal.defs _ _).mono
    (fun r h => ⟨fun c => (h c).2, sem_eq_zero_of_no_sems (by decide) r.2⟩)
    (Cert.Reference14Ideal.Value.run (F := Ideal) m ρ)

end Cert.Ffn.RecDn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import proofs.«01_k».proof.Proof.Algebra
public import proofs.«01_k».proof.Proof.Da
public import proofs.«01_k».proof.Proof.Dwout
public import proofs.«01_k».proof.Proof.Dn
public import proofs.«01_k».proof.Proof.Dwin
public import proofs.«01_k».proof.Proof.Gates
public import proofs.«01_k».proof.Proof.Proj
public import proofs.«01_k».proof.Proof.Square
public import proofs.«01_k».proof.Proof.HybIn
public import proofs.«01_k».proof.Proof.Dcat
public import proofs.«01_k».proof.Proof.RecIn
public import proofs.«01_k».proof.Proof.HybOut
public import proofs.«01_k».proof.Proof.RecDn
public import Idealize.ShloMosaic.Adequacy
public import Idealize.ShloMosaic.Init

@[expose] public section

noncomputable section

namespace Cert.Proof

open Idealize.ShloMosaic Idealize.SL.Sem Cert.Kernel

/-- The reference's run leaves its arguments as they were, and no semaphore counts. -/
theorem frame_reference [Cert.Pre_finite.Facts] : Cert.quiescent_ReferenceIdeal :=
  fun m ρ _ => (θ_run Cert.ReferenceIdeal.defs _ _).mono
    (fun r h => ⟨fun c => (h c).2.2.2.2.2, sem_eq_zero_of_no_sems (by decide) r.2⟩)
    (Cert.ReferenceIdeal.Value.run (F := Ideal) m ρ)

/-- Each named constant is, over the extended reals, the real number that its name stands for. -/
theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "scale" .f32 0x3DB504F3#32 (((Real.sqrt 128)⁻¹ : ℝ) : EReal) rfl,
    IdealRules.named_const.statement Cert.KernelIdeal.κ "ln2" .f32 0x3F317218#32 ((Real.log 2 : ℝ) : EReal) rfl,
    IdealRules.named_const.statement Cert.KernelIdeal.κ "mask" .f32 0xF149F2CA#32 ⊥ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts,
  fun m ρ _ => Cert.Kernel.Gen.frame m ρ, fun m ρ _ => Cert.Kernel.Gen.frame m ρ,
  fun m ρ _ => Cert.KernelIdeal.Gen.frame m ρ, fun m ρ _ => Cert.KernelIdeal.Gen.frame m ρ,
  frame_reference,
  Cert.Ffn.Da.frame_kernel, Cert.Ffn.Da.frame_ideal, Cert.Ffn.Da.frame_reference,
  Cert.Ffn.Dwout.frame_kernel, Cert.Ffn.Dwout.frame_ideal, Cert.Ffn.Dwout.frame_reference,
  Cert.Ffn.Dn.frame_kernel, Cert.Ffn.Dn.frame_ideal, Cert.Ffn.Dn.frame_reference,
  Cert.Ffn.Dwin.frame_kernel, Cert.Ffn.Dwin.frame_ideal, Cert.Ffn.Dwin.frame_reference,
  Cert.Ffn.Gates.frame_kernel, Cert.Ffn.Gates.frame_ideal, Cert.Ffn.Gates.frame_reference,
  Cert.Ffn.Proj.frame_kernel, Cert.Ffn.Proj.frame_ideal, Cert.Ffn.Proj.frame_reference,
  Cert.Ffn.Square.frame_kernel, Cert.Ffn.Square.frame_ideal, Cert.Ffn.Square.frame_reference,
  Cert.Ffn.HybIn.frame_kernel, Cert.Ffn.HybIn.frame_ideal, Cert.Ffn.HybIn.frame_reference,
  Cert.Ffn.Dcat.frame_kernel, Cert.Ffn.Dcat.frame_ideal, Cert.Ffn.Dcat.frame_reference,
  Cert.Ffn.RecIn.frame_kernel, Cert.Ffn.RecIn.frame_ideal, Cert.Ffn.RecIn.frame_reference,
  Cert.Ffn.HybOut.frame_kernel, Cert.Ffn.HybOut.frame_ideal, Cert.Ffn.HybOut.frame_reference,
  Cert.Ffn.RecDn.frame_kernel, Cert.Ffn.RecDn.frame_ideal, Cert.Ffn.RecDn.frame_reference,
  preserves, Cert.Fox.algebraic,
  trivial, Cert.Ffn.Da.algebraic,
  trivial, Cert.Ffn.Dwout.algebraic,
  trivial, Cert.Ffn.Dn.algebraic,
  trivial, Cert.Ffn.Dwin.algebraic,
  trivial, Cert.Ffn.Gates.algebraic,
  trivial, Cert.Ffn.Proj.algebraic,
  trivial, Cert.Ffn.Square.algebraic,
  trivial, Cert.Ffn.HybIn.algebraic,
  trivial, Cert.Ffn.Dcat.algebraic,
  trivial, Cert.Ffn.RecIn.algebraic,
  trivial, Cert.Ffn.HybOut.algebraic,
  trivial, Cert.Ffn.RecDn.algebraic⟩

end Cert.Proof

end
